-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)) (v2 : (c : Dev Cert.Kernel5Ideal.nD) → Buf (Elt Ideal) ((c.tc : Thread Cert.Kernel5Ideal.nD Cert.Kernel5Ideal.τ).loc Cert.Kernel5Ideal.main_v17_2)) (v3 : (c : Dev Cert.Kernel5Ideal.nD) → Buf (Elt Ideal) ((c.tc : Thread Cert.Kernel5Ideal.nD Cert.Kernel5Ideal.τ).loc Cert.Kernel5Ideal.main_v17_3)) (v4 : (c : Dev Cert.Kernel5Ideal.nD) → Buf (Elt Ideal) ((c.tc : Thread Cert.Kernel5Ideal.nD Cert.Kernel5Ideal.τ).loc Cert.Kernel5Ideal.main_v17_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_v17_2) = v2 c
          ∧ r.2.mem ((c.tc : Thread Cert.Kernel5Ideal.nD Cert.Kernel5Ideal.τ).loc Cert.Kernel5Ideal.main_v17_3) = v3 c
          ∧ r.2.mem ((c.tc : Thread Cert.Kernel5Ideal.nD Cert.Kernel5Ideal.τ).loc Cert.Kernel5Ideal.main_v17_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v7) = v3 c
          ∧ r.2.mem ((c.tc : Thread Cert.Reference5Ideal.nD Cert.Reference5Ideal.τ).loc Cert.Reference5Ideal.main_v9) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32768x1536 : Shape := ⟨2, ![32768, 1536]⟩
abbrev S32768x128 : Shape := ⟨2, ![32768, 128]⟩
abbrev S16x8x2048 : Shape := ⟨3, ![16, 8, 2048]⟩
abbrev S_ : Shape := ⟨0, ![]⟩

class Facts : Prop where
  bitsLt_bf16_f32 : FTy.bits .bf16 < FTy.bits .f32
  bcast_S_S32768x1536 : S_.BroadcastsInDim S32768x1536 (![] : Fin 0 → Fin S32768x1536.rank)
  bcast_S_S32768x128 : S_.BroadcastsInDim S32768x128 (![] : Fin 0 → Fin S32768x128.rank)
  bcast_S_S16x8x2048 : S_.BroadcastsInDim S16x8x2048 (![] : Fin 0 → Fin S16x8x2048.rank)

variable [Facts]

def fn {F : FTy → Type} [FloatOps F] (main_arg0 : FVec F S32768x1536 .bf16) (main_arg1 : FVec F S32768x128 .f32) (main_arg2 : FVec F S16x8x2048 .f32) : IVec S32768x1536 1 × IVec S32768x128 1 × IVec S16x8x2048 1 :=
  let main_v0 : FVec F S32768x1536 .f32 := (extf .f32 · bitsLt_bf16_f32) main_arg0
  let main_v1 : FVec F S32768x1536 .f32 := Host.absf main_v0
  let main_cst : FVec F S_ .f32 := constant S_ .f32 0x7F800000#32
  let main_v2 : FVec F S32768x1536 .f32 := broadcastInDim S32768x1536 ![] bcast_S_S32768x1536 main_cst
  let main_v3 : IVec S32768x1536 1 := cmpf .olt main_v1 main_v2
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_v7 : FVec F S16x8x2048 .f32 := Host.absf main_arg2
  let main_cst_1 : FVec F S_ .f32 := constant S_ .f32 0x7F800000#32
  let main_v8 : FVec F S16x8x2048 .f32 := broadcastInDim S16x8x2048 ![] bcast_S_S16x8x2048 main_cst_1
  let main_v9 : IVec S16x8x2048 1 := cmpf .olt main_v7 main_v8
  (main_v3, main_v6, main_v9)
-- ==== Kernel.lean ====
abbrev S32768x1536 : Shape := ⟨2, ![32768, 1536]⟩
abbrev S32768x128 : Shape := ⟨2, ![32768, 128]⟩
abbrev S16x8x2048 : Shape := ⟨3, ![16, 8, 2048]⟩
abbrev S32768x512 : Shape := ⟨2, ![32768, 512]⟩
abbrev S2048x128 : Shape := ⟨2, ![2048, 128]⟩
abbrev S1x8x2048 : Shape := ⟨3, ![1, 8, 2048]⟩
abbrev S2x256x2048 : Shape := ⟨3, ![2, 256, 2048]⟩
abbrev S2048 : Shape := ⟨1, ![2048]⟩
abbrev S2048x1 : Shape := ⟨2, ![2048, 1]⟩
abbrev S1x1x2048 : Shape := ⟨3, ![1, 1, 2048]⟩
abbrev S1x2048 : Shape := ⟨2, ![1, 2048]⟩
abbrev S256x128 : Shape := ⟨2, ![256, 128]⟩
abbrev S256x256 : Shape := ⟨2, ![256, 256]⟩
abbrev S256x1 : Shape := ⟨2, ![256, 1]⟩
abbrev S1x256 : Shape := ⟨2, ![1, 256]⟩
abbrev S1x256x256 : Shape := ⟨3, ![1, 256, 256]⟩
abbrev S256 : Shape := ⟨1, ![256]⟩
abbrev S1x256x512 : Shape := ⟨3, ![1, 256, 512]⟩
abbrev S256x512 : Shape := ⟨2, ![256, 512]⟩
abbrev S512x128 : Shape := ⟨2, ![512, 128]⟩
abbrev S1x256x768 : Shape := ⟨3, ![1, 256, 768]⟩
abbrev S256x768 : Shape := ⟨2, ![256, 768]⟩
abbrev S768x128 : Shape := ⟨2, ![768, 128]⟩
abbrev S1x256x1024 : Shape := ⟨3, ![1, 256, 1024]⟩
abbrev S256x1024 : Shape := ⟨2, ![256, 1024]⟩
abbrev S1024x128 : Shape := ⟨2, ![1024, 128]⟩
abbrev S1x256x1280 : Shape := ⟨3, ![1, 256, 1280]⟩
abbrev S256x1280 : Shape := ⟨2, ![256, 1280]⟩
abbrev S1280x128 : Shape := ⟨2, ![1280, 128]⟩
abbrev S1x256x1536 : Shape := ⟨3, ![1, 256, 1536]⟩
abbrev S256x1536 : Shape := ⟨2, ![256, 1536]⟩
abbrev S1536x128 : Shape := ⟨2, ![1536, 128]⟩
abbrev S1x256x1792 : Shape := ⟨3, ![1, 256, 1792]⟩
abbrev S256x1792 : Shape := ⟨2, ![256, 1792]⟩
abbrev S1792x128 : Shape := ⟨2, ![1792, 128]⟩
abbrev S1x256x2048 : Shape := ⟨3, ![1, 256, 2048]⟩
abbrev S256x2048 : Shape := ⟨2, ![256, 2048]⟩

abbrev nBuf : Space → Nat
  | .hbm => 4
  | .vmem => 14
  | .smem => 0
  | _ => 0

abbrev bufTy : (tb : Table) → Fin (tcTables nBuf tb) → BufTy
  | .hbm, ⟨0, _⟩ => ⟨S32768x1536, .bf16⟩
  | .hbm, ⟨1, _⟩ => ⟨S32768x128, .f32⟩
  | .hbm, ⟨2, _⟩ => ⟨S16x8x2048, .f32⟩
  | .hbm, ⟨3, _⟩ => ⟨S32768x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | .local _ .vmem, ⟨10, _⟩ => ⟨S2048x128, .bf16⟩
  | .local _ .vmem, ⟨11, _⟩ => ⟨S2048x128, .bf16⟩
  | .local _ .vmem, ⟨12, _⟩ => ⟨S2x256x2048, .f32⟩
  | .local _ .vmem, ⟨13, _⟩ => ⟨S2x256x2048, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let c0_2 : Index := 0#32
  let arg1 : BitVec 32 := BitVec.ofNat 32 (i 1).val
  let v8 : Index := Scalar.indexCast arg1
  let c0_3 : Index := 0#32
  ![0, v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32768x1536 : Shape := ⟨2, ![32768, 1536]⟩
abbrev S32768x128 : Shape := ⟨2, ![32768, 128]⟩
abbrev S16x8x2048 : Shape := ⟨3, ![16, 8, 2048]⟩
abbrev S_ : Shape := ⟨0, ![]⟩
abbrev S16x2048x3x4x128 : Shape := ⟨5, ![16, 2048, 3, 4, 128]⟩
abbrev S16x2048x1x4x128 : Shape := ⟨5, ![16, 2048, 1, 4, 128]⟩
abbrev S16x2048x4x128 : Shape := ⟨4, ![16, 2048, 4, 128]⟩
abbrev S16x2048x128 : Shape := ⟨3, ![16, 2048, 128]⟩
abbrev S16x2048x4 : Shape := ⟨3, ![16, 2048, 4]⟩
abbrev S16x4x2048 : Shape := ⟨3, ![16, 4, 2048]⟩
abbrev S16x4x2048x2048 : Shape := ⟨4, ![16, 4, 2048, 2048]⟩
abbrev S16x4x2048x1 : Shape := ⟨4, ![16, 4, 2048, 1]⟩
abbrev S16x4x1x2048 : Shape := ⟨4, ![16, 4, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x4x128x2048 : Shape := ⟨4, ![16, 4, 128, 2048]⟩
abbrev S32768x512 : Shape := ⟨2, ![32768, 512]⟩

abbrev nBuf : Space → Nat
  | .hbm => 65
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x128, .f32⟩
  | .hbm, ⟨2, _⟩ => ⟨S16x8x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32768x1536, .f32⟩
  | .hbm, ⟨8, _⟩ => ⟨S16x2048x3x4x128, .f32⟩
  | .hbm, ⟨9, _⟩ => ⟨S16x2048x1x4x128, .f32⟩
  | .hbm, ⟨10, _⟩ => ⟨S16x2048x4x128, .f32⟩
  | .hbm, ⟨11, _⟩ => ⟨S_, .f32⟩
  | .hbm, ⟨12, _⟩ => ⟨S16x2048x4x128, .f32⟩
  | .hbm, ⟨13, _⟩ => ⟨S16x2048x4x128, .f32⟩
  | .hbm, ⟨14, _⟩ => ⟨S16x2048x1x4x128, .f32⟩
  | .hbm, ⟨15, _⟩ => ⟨S16x2048x4x128, .f32⟩
  | .hbm, ⟨16, _⟩ => ⟨S16x2048x1x4x128, .f32⟩
  | .hbm, ⟨17, _⟩ => ⟨S16x2048x4x128, .f32⟩
  | .hbm, ⟨18, _⟩ => ⟨S16x2048x128, .f32⟩
  | .hbm, ⟨19, _⟩ => ⟨S16x2048x4, .f32⟩
  | .hbm, ⟨20, _⟩ => ⟨S16x4x2048, .f32⟩
  | .hbm, ⟨21, _⟩ => ⟨S16x4x2048, .f32⟩
  | .hbm, ⟨22, _⟩ => ⟨S16x4x2048, .f32⟩
  | .hbm, ⟨23, _⟩ => ⟨S16x4x2048, .f32⟩
  | .hbm, ⟨24, _⟩ => ⟨S16x4x2048, .f32⟩
  | .hbm, ⟨25, _⟩ => ⟨S16x4x2048, .f32⟩
  | .hbm, ⟨26, _⟩ => ⟨S16x4x2048x2048, .f32⟩
  | .hbm, ⟨27, _⟩ => ⟨S16x4x2048x2048, .f32⟩
  | .hbm, ⟨28, _⟩ => ⟨S16x4x2048x2048, .f32⟩
  | .hbm, ⟨29, _⟩ => ⟨S16x4x2048x1, .f32⟩
  | .hbm, ⟨30, _⟩ => ⟨S16x4x1x2048, .f32⟩
  | .hbm, ⟨31, _⟩ => ⟨S16x4x2048x2048, .f32⟩
  | .hbm, ⟨32, _⟩ => ⟨S16x4x2048x2048, .f32⟩
  | .hbm, ⟨33, _⟩ => ⟨S16x4x2048x2048, .f32⟩
  | .hbm, ⟨34, _⟩ => ⟨S2048, .i32⟩
  | .hbm, ⟨35, _⟩ => ⟨S2048x1, .i32⟩
  | .hbm, ⟨36, _⟩ => ⟨S2048, .i32⟩
  | .hbm, ⟨37, _⟩ => ⟨S1x2048, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S16x4x2048x2048, .f32⟩
  | .hbm, ⟨42, _⟩ => ⟨S_, .f32⟩
  | .hbm, ⟨43, _⟩ => ⟨S_, .f32⟩
  | .hbm, ⟨44, _⟩ => ⟨S16x4x2048x2048, .i1⟩
  | .hbm, ⟨45, _⟩ => ⟨S16x4x2048x2048, .f32⟩
  | .hbm, ⟨46, _⟩ => ⟨S16x4x2048x2048, .f32⟩
  | .hbm, ⟨47, _⟩ => ⟨S_, .f32⟩
  | .hbm, ⟨48, _⟩ => ⟨S16x4x2048, .f32⟩
  | .hbm, ⟨49, _⟩ => ⟨S_, .f32⟩
  | .hbm, ⟨50, _⟩ => ⟨S16x4x2048, .f32⟩
  | .hbm, ⟨51, _⟩ => ⟨S16x4x2048, .f32⟩
  | .hbm, ⟨52, _⟩ => ⟨S16x4x2048x1, .f32⟩
  | .hbm, ⟨53, _⟩ => ⟨S16x4x2048x2048, .f32⟩
  | .hbm, ⟨54, _⟩ => ⟨S16x4x2048x2048, .f32⟩
  | .hbm, ⟨55, _⟩ => ⟨S16x4x2048x2048, .f32⟩
  | .hbm, ⟨56, _⟩ => ⟨S_, .f32⟩
  | .hbm, ⟨57, _⟩ => ⟨S16x4x2048, .f32⟩
  | .hbm, ⟨58, _⟩ => ⟨S16x4x2048x1, .f32⟩
  | .hbm, ⟨59, _⟩ => ⟨S16x4x2048x2048, .f32⟩
  | .hbm, ⟨60, _⟩ => ⟨S16x4x2048x2048, .f32⟩
  | .hbm, ⟨61, _⟩ => ⟨S16x4x128x2048, .f32⟩
  | .hbm, ⟨62, _⟩ => ⟨S16x2048x4x128, .f32⟩
  | .hbm, ⟨63, _⟩ => ⟨S32768x512, .f32⟩
  | .hbm, ⟨64, _⟩ => ⟨S32768x512, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel2.lean ====
abbrev S32768x2048 : Shape := ⟨2, ![32768, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S4x2048x1 : Shape := ⟨3, ![4, 2048, 1]⟩
abbrev S_ : Shape := ⟨0, ![]⟩
abbrev S32768 : Shape := ⟨1, ![32768]⟩
abbrev S32768x1 : Shape := ⟨2, ![32768, 1]⟩
abbrev S32768x128 : Shape := ⟨2, ![32768, 128]⟩
abbrev S4x1x2048 : Shape := ⟨3, ![4, 1, 2048]⟩
abbrev S1x1x2048 : Shape := ⟨3, ![1, 1, 2048]⟩
abbrev S1x2048 : Shape := ⟨2, ![1, 2048]⟩
abbrev S512x2048 : Shape := ⟨2, ![512, 2048]⟩
abbrev S512x128 : Shape := ⟨2, ![512, 128]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S128x2048 : Shape := ⟨2, ![128, 2048]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩

abbrev nBuf : Space → Nat
  | .hbm => 29
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x2048, .f32⟩
  | .hbm, ⟨5, _⟩ => ⟨S4x2048x1, .f32⟩
  | .hbm, ⟨6, _⟩ => ⟨S4x2048x8192, .f32⟩
  | .hbm, ⟨7, _⟩ => ⟨S4x2048x8192, .f32⟩
  | .hbm, ⟨8, _⟩ => ⟨S4x2048x8192, .bf16⟩
  | .hbm, ⟨9, _⟩ => ⟨S4x8192x2048, .bf16⟩
  | .hbm, ⟨10, _⟩ => ⟨S32768x2048, .bf16⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x128, .f32⟩
  | .hbm, ⟨23, _⟩ => ⟨S4x1x2048, .f32⟩
  | .hbm, ⟨24, _⟩ => ⟨S1x1x2048, .f32⟩
  | .hbm, ⟨25, _⟩ => ⟨S1x2048, .f32⟩
  | .hbm, ⟨26, _⟩ => ⟨S32768x2048, .f32⟩
  | .hbm, ⟨27, _⟩ => ⟨S32768x2048, .bf16⟩
  | .hbm, ⟨28, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x128, .f32⟩
  | .local _ .vmem, ⟨5, _⟩ => ⟨S512x128, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x128, .f32⟩
  | .local _ .vmem, ⟨16, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![64, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S32768x2048 : Shape := ⟨2, ![32768, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩
abbrev S32768x128 : Shape := ⟨2, ![32768, 128]⟩

abbrev nBuf : Space → Nat
  | .hbm => 65
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x2048, .f32⟩
  | .hbm, ⟨5, _⟩ => ⟨S1x2048, .f32⟩
  | .hbm, ⟨6, _⟩ => ⟨S2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S1x2048x8192, .f32⟩
  | .hbm, ⟨24, _⟩ => ⟨S2048x8192, .f32⟩
  | .hbm, ⟨25, _⟩ => ⟨S32768x8192, .f32⟩
  | .hbm, ⟨26, _⟩ => ⟨S_, .f32⟩
  | .hbm, ⟨27, _⟩ => ⟨S32768x8192, .f32⟩
  | .hbm, ⟨28, _⟩ => ⟨S32768x8192, .f32⟩
  | .hbm, ⟨29, _⟩ => ⟨S32768x8192, .f32⟩
  | .hbm, ⟨30, _⟩ => ⟨S1x8192x2048, .f32⟩
  | .hbm, ⟨31, _⟩ => ⟨S8192x2048, .f32⟩
  | .hbm, ⟨32, _⟩ => ⟨S32768x2048, .f32⟩
  | .hbm, ⟨33, _⟩ => ⟨S1x2048, .f32⟩
  | .hbm, ⟨34, _⟩ => ⟨S2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S32768x2048, .f32⟩
  | .hbm, ⟨53, _⟩ => ⟨S_, .f32⟩
  | .hbm, ⟨54, _⟩ => ⟨S32768, .f32⟩
  | .hbm, ⟨55, _⟩ => ⟨S_, .f32⟩
  | .hbm, ⟨56, _⟩ => ⟨S32768, .f32⟩
  | .hbm, ⟨57, _⟩ => ⟨S32768, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S32768, .f32⟩
  | .hbm, ⟨62, _⟩ => ⟨S32768x2048, .bf16⟩
  | .hbm, ⟨63, _⟩ => ⟨S32768x1, .f32⟩
  | .hbm, ⟨64, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel3.lean ====
abbrev S32768x512 : Shape := ⟨2, ![32768, 512]⟩
abbrev S32768x1536 : Shape := ⟨2, ![32768, 1536]⟩
abbrev S32768x2048 : Shape := ⟨2, ![32768, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S1x1x2048 : Shape := ⟨3, ![1, 1, 2048]⟩
abbrev S1x2048 : Shape := ⟨2, ![1, 2048]⟩
abbrev S32768x128 : Shape := ⟨2, ![32768, 128]⟩
abbrev S512x512 : Shape := ⟨2, ![512, 512]⟩
abbrev S512x1536 : Shape := ⟨2, ![512, 1536]⟩
abbrev S1x2048x2048 : Shape := ⟨3, ![1, 2048, 2048]⟩
abbrev S512x2048 : Shape := ⟨2, ![512, 2048]⟩
abbrev S512x128 : Shape := ⟨2, ![512, 128]⟩
abbrev S128x512 : Shape := ⟨2, ![128, 512]⟩
abbrev S1x512x2048 : Shape := ⟨3, ![1, 512, 2048]⟩
abbrev S128x2048 : Shape := ⟨2, ![128, 2048]⟩
abbrev S128x1536 : Shape := ⟨2, ![128, 1536]⟩
abbrev S1x1536x2048 : Shape := ⟨3, ![1, 1536, 2048]⟩
abbrev S1536x2048 : Shape := ⟨2, ![1536, 2048]⟩
abbrev S128 : Shape := ⟨1, ![128]⟩
abbrev S128x1 : Shape := ⟨2, ![128, 1]⟩
abbrev S128x128 : Shape := ⟨2, ![128, 128]⟩

abbrev nBuf : Space → Nat
  | .hbm => 12
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x1536, .bf16⟩
  | .hbm, ⟨2, _⟩ => ⟨S32768x2048, .f32⟩
  | .hbm, ⟨3, _⟩ => ⟨S4x2048x2048, .f32⟩
  | .hbm, ⟨4, _⟩ => ⟨S4x2048, .f32⟩
  | .hbm, ⟨5, _⟩ => ⟨S4x2048x2048, .bf16⟩
  | .hbm, ⟨6, _⟩ => ⟨S4x1x2048, .f32⟩
  | .hbm, ⟨7, _⟩ => ⟨S1x1x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .hbm, ⟨11, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x512 : Shape := ⟨2, ![32768, 512]⟩
abbrev S32768x1536 : Shape := ⟨2, ![32768, 1536]⟩
abbrev S32768x2048 : Shape := ⟨2, ![32768, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x1536, .bf16⟩
  | .hbm, ⟨2, _⟩ => ⟨S32768x2048, .f32⟩
  | .hbm, ⟨3, _⟩ => ⟨S4x2048x2048, .f32⟩
  | .hbm, ⟨4, _⟩ => ⟨S4x2048, .f32⟩
  | .hbm, ⟨5, _⟩ => ⟨S32768x512, .f32⟩
  | .hbm, ⟨6, _⟩ => ⟨S32768x1536, .f32⟩
  | .hbm, ⟨7, _⟩ => ⟨S32768x2048, .f32⟩
  | .hbm, ⟨8, _⟩ => ⟨S1x2048x2048, .f32⟩
  | .hbm, ⟨9, _⟩ => ⟨S2048x2048, .f32⟩
  | .hbm, ⟨10, _⟩ => ⟨S32768x2048, .f32⟩
  | .hbm, ⟨11, _⟩ => ⟨S1x2048, .f32⟩
  | .hbm, ⟨12, _⟩ => ⟨S2048, .f32⟩
  | .hbm, ⟨13, _⟩ => ⟨S32768x2048, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768, .f32⟩
  | .hbm, ⟨33, _⟩ => ⟨S_, .f32⟩
  | .hbm, ⟨34, _⟩ => ⟨S32768, .f32⟩
  | .hbm, ⟨35, _⟩ => ⟨S32768, .f32⟩
  | .hbm, ⟨36, _⟩ => ⟨S_, .f32⟩
  | .hbm, ⟨37, _⟩ => ⟨S32768, .f32⟩
  | .hbm, ⟨38, _⟩ => ⟨S32768, .f32⟩
  | .hbm, ⟨39, _⟩ => ⟨S32768, .f32⟩
  | .hbm, ⟨40, _⟩ => ⟨S32768x2048, .bf16⟩
  | .hbm, ⟨41, _⟩ => ⟨S32768x1, .f32⟩
  | .hbm, ⟨42, _⟩ => ⟨S32768x128, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S32768x2048 : Shape := ⟨2, ![32768, 2048]⟩
abbrev S4x2048 : Shape := ⟨2, ![4, 2048]⟩
abbrev S4x2048x4612 : Shape := ⟨3, ![4, 2048, 4612]⟩
abbrev S_ : Shape := ⟨0, ![]⟩
abbrev S32768 : Shape := ⟨1, ![32768]⟩
abbrev S32768x1 : Shape := ⟨2, ![32768, 1]⟩
abbrev S32768x128 : Shape := ⟨2, ![32768, 128]⟩
abbrev S1664 : Shape := ⟨1, ![1664]⟩
abbrev S4x2048x1 : Shape := ⟨3, ![4, 2048, 1]⟩
abbrev S4x2048x1664 : Shape := ⟨3, ![4, 2048, 1664]⟩
abbrev S1x1x1664 : Shape := ⟨3, ![1, 1, 1664]⟩
abbrev S4x2048x3072 : Shape := ⟨3, ![4, 2048, 3072]⟩
abbrev S32768x3072 : Shape := ⟨2, ![32768, 3072]⟩
abbrev S32768x1536 : Shape := ⟨2, ![32768, 1536]⟩
abbrev S1024x2048 : Shape := ⟨2, ![1024, 2048]⟩
abbrev S1024x128 : Shape := ⟨2, ![1024, 128]⟩
abbrev S1x2048x3072 : Shape := ⟨3, ![1, 2048, 3072]⟩
abbrev S1x2048x1536 : Shape := ⟨3, ![1, 2048, 1536]⟩
abbrev S1x2048x128 : Shape := ⟨3, ![1, 2048, 128]⟩
abbrev S1024x3072 : Shape := ⟨2, ![1024, 3072]⟩
abbrev S1024x1536 : Shape := ⟨2, ![1024, 1536]⟩
abbrev S1x2048x768 : Shape := ⟨3, ![1, 2048, 768]⟩
abbrev S2048x768 : Shape := ⟨2, ![2048, 768]⟩
abbrev S1024x768 : Shape := ⟨2, ![1024, 768]⟩
abbrev S2048x128 : Shape := ⟨2, ![2048, 128]⟩

abbrev nBuf : Space → Nat
  | .hbm => 41
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4612, .f32⟩
  | .hbm, ⟨3, _⟩ => ⟨S32768x2048, .bf16⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x128, .f32⟩
  | .hbm, ⟨16, _⟩ => ⟨S1664, .i32⟩
  | .hbm, ⟨17, _⟩ => ⟨S_, .i32⟩
  | .hbm, ⟨18, _⟩ => ⟨S1664, .i32⟩
  | .hbm, ⟨19, _⟩ => ⟨S1664, .i1⟩
  | .hbm, ⟨20, _⟩ => ⟨S_, .f32⟩
  | .hbm, ⟨21, _⟩ => ⟨S_, .f32⟩
  | .hbm, ⟨22, _⟩ => ⟨S1664, .f32⟩
  | .hbm, ⟨23, _⟩ => ⟨S1664, .f32⟩
  | .hbm, ⟨24, _⟩ => ⟨S1664, .f32⟩
  | .hbm, ⟨25, _⟩ => ⟨S1664, .f32⟩
  | .hbm, ⟨26, _⟩ => ⟨S4x2048x1, .f32⟩
  | .hbm, ⟨27, _⟩ => ⟨S4x2048x1664, .f32⟩
  | .hbm, ⟨28, _⟩ => ⟨S4x2048x1664, .f32⟩
  | .hbm, ⟨29, _⟩ => ⟨S4x2048x1664, .f32⟩
  | .hbm, ⟨30, _⟩ => ⟨S1x1x1664, .f32⟩
  | .hbm, ⟨31, _⟩ => ⟨S4x2048x1664, .f32⟩
  | .hbm, ⟨32, _⟩ => ⟨S4x2048x1664, .f32⟩
  | .hbm, ⟨33, _⟩ => ⟨S4x2048x1664, .bf16⟩
  | .hbm, ⟨34, _⟩ => ⟨S4x2048x3072, .f32⟩
  | .hbm, ⟨35, _⟩ => ⟨S4x2048x3072, .f32⟩
  | .hbm, ⟨36, _⟩ => ⟨S4x2048x3072, .f32⟩
  | .hbm, ⟨37, _⟩ => ⟨S4x2048x3072, .bf16⟩
  | .hbm, ⟨38, _⟩ => ⟨S32768x3072, .bf16⟩
  | .hbm, ⟨39, _⟩ => ⟨S32768x1536, .bf16⟩
  | .hbm, ⟨40, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x128, .f32⟩
  | .local _ .vmem, ⟨3, _⟩ => ⟨S1024x128, .f32⟩
  | .local _ .vmem, ⟨4, _⟩ => ⟨S1x2048x3072, .bf16⟩
  | .local _ .vmem, ⟨5, _⟩ => ⟨S1x2048x1536, .bf16⟩
  | .local _ .vmem, ⟨6, _⟩ => ⟨S1x2048x128, .bf16⟩
  | .local _ .vmem, ⟨7, _⟩ => ⟨S1024x3072, .bf16⟩
  | .local _ .vmem, ⟨8, _⟩ => ⟨S1024x3072, .bf16⟩
  | .local _ .vmem, ⟨9, _⟩ => ⟨S1024x1536, .bf16⟩
  | .local _ .vmem, ⟨10, _⟩ => ⟨S1024x1536, .bf16⟩
  | .local _ .vmem, ⟨11, _⟩ => ⟨S1024x128, .f32⟩
  | .local _ .vmem, ⟨12, _⟩ => ⟨S1024x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c12_i32 : BitVec 32 := 12#32
  let c0_i32_0 : BitVec 32 := 0#32
  ![c3_i32.toNat, c0_i32.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x2048 : Shape := ⟨2, ![32768, 2048]⟩
abbrev S4x2048 : Shape := ⟨2, ![4, 2048]⟩
abbrev S4x2048x4612 : Shape := ⟨3, ![4, 2048, 4612]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x4612 : Shape := ⟨3, ![1, 2048, 4612]⟩
abbrev S2048x4612 : Shape := ⟨2, ![2048, 4612]⟩
abbrev S32768x4612 : Shape := ⟨2, ![32768, 4612]⟩
abbrev S32768x512 : Shape := ⟨2, ![32768, 512]⟩
abbrev S32768x1024 : Shape := ⟨2, ![32768, 1024]⟩
abbrev S32768x1536 : Shape := ⟨2, ![32768, 1536]⟩
abbrev S32768x3072 : Shape := ⟨2, ![32768, 3072]⟩
abbrev S32768x128 : Shape := ⟨2, ![32768, 128]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4612, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x4612, .f32⟩
  | .hbm, ⟨22, _⟩ => ⟨S2048x4612, .f32⟩
  | .hbm, ⟨23, _⟩ => ⟨S32768x4612, .f32⟩
  | .hbm, ⟨24, _⟩ => ⟨S32768x512, .f32⟩
  | .hbm, ⟨25, _⟩ => ⟨S32768x1024, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x1536, .f32⟩
  | .hbm, ⟨30, _⟩ => ⟨S32768x3072, .f32⟩
  | .hbm, ⟨31, _⟩ => ⟨S32768x3072, .bf16⟩
  | .hbm, ⟨32, _⟩ => ⟨S32768x1536, .bf16⟩
  | .hbm, ⟨33, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel5.lean ====
abbrev S32768x2048 : Shape := ⟨2, ![32768, 2048]⟩
abbrev S4x2048 : Shape := ⟨2, ![4, 2048]⟩
abbrev S4x2048x4612 : Shape := ⟨3, ![4, 2048, 4612]⟩
abbrev S1664 : Shape := ⟨1, ![1664]⟩
abbrev S_ : Shape := ⟨0, ![]⟩
abbrev S4x2048x1 : Shape := ⟨3, ![4, 2048, 1]⟩
abbrev S4x2048x1664 : Shape := ⟨3, ![4, 2048, 1664]⟩
abbrev S1x1x1664 : Shape := ⟨3, ![1, 1, 1664]⟩
abbrev S4x2048x3072 : Shape := ⟨3, ![4, 2048, 3072]⟩
abbrev S32768x3072 : Shape := ⟨2, ![32768, 3072]⟩
abbrev S32768x1536 : Shape := ⟨2, ![32768, 1536]⟩
abbrev S32768x128 : Shape := ⟨2, ![32768, 128]⟩
abbrev S512x2048 : Shape := ⟨2, ![512, 2048]⟩
abbrev S1x2048x3072 : Shape := ⟨3, ![1, 2048, 3072]⟩
abbrev S1x2048x1536 : Shape := ⟨3, ![1, 2048, 1536]⟩
abbrev S1x2048x128 : Shape := ⟨3, ![1, 2048, 128]⟩
abbrev S512x3072 : Shape := ⟨2, ![512, 3072]⟩
abbrev S512x1536 : Shape := ⟨2, ![512, 1536]⟩
abbrev S512x128 : Shape := ⟨2, ![512, 128]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x2048x768 : Shape := ⟨3, ![1, 2048, 768]⟩
abbrev S2048x768 : Shape := ⟨2, ![2048, 768]⟩
abbrev S512x768 : Shape := ⟨2, ![512, 768]⟩
abbrev S2048x128 : Shape := ⟨2, ![2048, 128]⟩

abbrev nBuf : Space → Nat
  | .hbm => 30
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4612, .f32⟩
  | .hbm, ⟨3, _⟩ => ⟨S1664, .i32⟩
  | .hbm, ⟨4, _⟩ => ⟨S_, .i32⟩
  | .hbm, ⟨5, _⟩ => ⟨S1664, .i32⟩
  | .hbm, ⟨6, _⟩ => ⟨S1664, .i1⟩
  | .hbm, ⟨7, _⟩ => ⟨S_, .f32⟩
  | .hbm, ⟨8, _⟩ => ⟨S_, .f32⟩
  | .hbm, ⟨9, _⟩ => ⟨S1664, .f32⟩
  | .hbm, ⟨10, _⟩ => ⟨S1664, .f32⟩
  | .hbm, ⟨11, _⟩ => ⟨S1664, .f32⟩
  | .hbm, ⟨12, _⟩ => ⟨S1664, .f32⟩
  | .hbm, ⟨13, _⟩ => ⟨S4x2048x1, .f32⟩
  | .hbm, ⟨14, _⟩ => ⟨S4x2048x1664, .f32⟩
  | .hbm, ⟨15, _⟩ => ⟨S4x2048x1664, .f32⟩
  | .hbm, ⟨16, _⟩ => ⟨S4x2048x1664, .f32⟩
  | .hbm, ⟨17, _⟩ => ⟨S1x1x1664, .f32⟩
  | .hbm, ⟨18, _⟩ => ⟨S4x2048x1664, .f32⟩
  | .hbm, ⟨19, _⟩ => ⟨S4x2048x1664, .f32⟩
  | .hbm, ⟨20, _⟩ => ⟨S4x2048x1664, .bf16⟩
  | .hbm, ⟨21, _⟩ => ⟨S4x2048x3072, .f32⟩
  | .hbm, ⟨22, _⟩ => ⟨S4x2048x3072, .f32⟩
  | .hbm, ⟨23, _⟩ => ⟨S4x2048x3072, .f32⟩
  | .hbm, ⟨24, _⟩ => ⟨S4x2048x3072, .bf16⟩
  | .hbm, ⟨25, _⟩ => ⟨S32768x3072, .bf16⟩
  | .hbm, ⟨26, _⟩ => ⟨S32768x1536, .bf16⟩
  | .hbm, ⟨27, _⟩ => ⟨S32768x128, .f32⟩
  | .hbm, ⟨28, _⟩ => ⟨S32768x2048, .bf16⟩
  | .hbm, ⟨29, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048x3072, .bf16⟩
  | .local _ .vmem, ⟨3, _⟩ => ⟨S1x2048x1536, .bf16⟩
  | .local _ .vmem, ⟨4, _⟩ => ⟨S1x2048x128, .bf16⟩
  | .local _ .vmem, ⟨5, _⟩ => ⟨S512x3072, .bf16⟩
  | .local _ .vmem, ⟨6, _⟩ => ⟨S512x3072, .bf16⟩
  | .local _ .vmem, ⟨7, _⟩ => ⟨S512x1536, .bf16⟩
  | .local _ .vmem, ⟨8, _⟩ => ⟨S512x1536, .bf16⟩
  | .local _ .vmem, ⟨9, _⟩ => ⟨S512x128, .f32⟩
  | .local _ .vmem, ⟨10, _⟩ => ⟨S512x128, .f32⟩
  | .local _ .vmem, ⟨11, _⟩ => ⟨S512x2048, .bf16⟩
  | .local _ .vmem, ⟨12, _⟩ => ⟨S512x2048, .bf16⟩
  | .local _ .vmem, ⟨13, _⟩ => ⟨S512x128, .f32⟩
  | .local _ .vmem, ⟨14, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c12_i32 : BitVec 32 := 12#32
  let c0_i32_1 : BitVec 32 := 0#32
  ![c0_i32.toNat, c0_i32_0.toNat, c12_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S32768x2048 : Shape := ⟨2, ![32768, 2048]⟩
abbrev S4x2048 : Shape := ⟨2, ![4, 2048]⟩
abbrev S4x2048x4612 : Shape := ⟨3, ![4, 2048, 4612]⟩
abbrev S_ : Shape := ⟨0, ![]⟩
abbrev S32768 : Shape := ⟨1, ![32768]⟩
abbrev S32768x1 : Shape := ⟨2, ![32768, 1]⟩
abbrev S32768x128 : Shape := ⟨2, ![32768, 128]⟩
abbrev S1x2048 : Shape := ⟨2, ![1, 2048]⟩
abbrev S2048 : Shape := ⟨1, ![2048]⟩
abbrev S1x2048x4612 : Shape := ⟨3, ![1, 2048, 4612]⟩
abbrev S2048x4612 : Shape := ⟨2, ![2048, 4612]⟩
abbrev S32768x4612 : Shape := ⟨2, ![32768, 4612]⟩
abbrev S32768x512 : Shape := ⟨2, ![32768, 512]⟩
abbrev S32768x1024 : Shape := ⟨2, ![32768, 1024]⟩
abbrev S32768x1536 : Shape := ⟨2, ![32768, 1536]⟩
abbrev S32768x3072 : Shape := ⟨2, ![32768, 3072]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4612, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768, .f32⟩
  | .hbm, ⟨13, _⟩ => ⟨S32768x2048, .bf16⟩
  | .hbm, ⟨14, _⟩ => ⟨S32768x1, .f32⟩
  | .hbm, ⟨15, _⟩ => ⟨S32768x128, .f32⟩
  | .hbm, ⟨16, _⟩ => ⟨S1x2048, .f32⟩
  | .hbm, ⟨17, _⟩ => ⟨S2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S1x2048, .f32⟩
  | .hbm, ⟨32, _⟩ => ⟨S32768x2048, .f32⟩
  | .hbm, ⟨33, _⟩ => ⟨S32768x2048, .f32⟩
  | .hbm, ⟨34, _⟩ => ⟨S1x2048x4612, .f32⟩
  | .hbm, ⟨35, _⟩ => ⟨S2048x4612, .f32⟩
  | .hbm, ⟨36, _⟩ => ⟨S32768x4612, .f32⟩
  | .hbm, ⟨37, _⟩ => ⟨S32768x512, .f32⟩
  | .hbm, ⟨38, _⟩ => ⟨S32768x1024, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x1536, .f32⟩
  | .hbm, ⟨43, _⟩ => ⟨S32768x3072, .f32⟩
  | .hbm, ⟨44, _⟩ => ⟨S32768x3072, .bf16⟩
  | .hbm, ⟨45, _⟩ => ⟨S32768x1536, .bf16⟩
  | .hbm, ⟨46, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Attn.Tensor.lean ====
/- The attention body written once over whole tiles: score tile, masked score tile, running maximum, weight tile,
   running sum, output tile; and the proof that the values the kernel's run names are these. -/
module

public import proofs.«01_k».proof.Proof.Gen.KernelIdeal.Value
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable {F : FTy → Type} [FloatOps F]

/-- 256 rows of a block, from row `o` on. -/
def rowsAt {e : EltTy} (x : Vec F S2048x128 e) (o : ℕ) : Vec F S256x128 e :=
  fun y => x (ix2 ⟨(o + (y 0).val) % 2048, Nat.mod_lt _ (by decide)⟩ (y 1))

/-- 256 entries of a column, from row `o` on. -/
def colAt (f : FVec F S2048x1 .f32) (o : ℕ) : FVec F S256x1 .f32 :=
  fun y => f (ix2 ⟨(o + (y 0).val) % 2048, Nat.mod_lt _ (by decide)⟩ (y 1))

/-- 256 entries of a row, from column `o` on. -/
def rowAt (f : FVec F S1x2048 .f32) (o : ℕ) : FVec F S1x256 .f32 :=
  fun y => f (ix2 (y 0) ⟨(o + (y 1).val) % 2048, Nat.mod_lt _ (by decide)⟩)

theorem readAt_rows {e : EltTy} (m : Memref sig .tc .vmem S2048x128 e) (h : m.IsWhole) (x : Vec F S2048x128 e) (o : ℕ)
    (inb : ∀ a, ![o, 0] a + ![256, 128] a ≤ S2048x128.size a) :
    View.readAt (Elt F) m.view (Rect.unit (s := S2048x128) ![o, 0] ![256, 128] inb).toLoadRect (h.unread x) = rowsAt x o := by
  funext y
  rw [Memref.IsWhole.readAt_unread]
  have h0 : o + 256 ≤ 2048 := inb 0
  have y0 : (y 0).val < 256 := (y 0).isLt
  refine congrArg x (funext fun a => Fin.ext ?_)
  match a with
  | 0 =>
    show o + 1 * (y 0).val = (o + (y 0).val) % 2048
    rw [one_mul, Nat.mod_eq_of_lt (by omega)]
  | 1 =>
    show 0 + 1 * (y 1).val = (y 1).val
    omega

theorem slice_col (f : FVec F S2048x1 .f32) (o : ℕ) (h : S2048x1.Slices ![o, 0] S256x1) :
    extractStridedSlice S256x1 ![o, 0] f h = colAt f o := by
  funext y
  have h0 : o + 256 ≤ 2048 := h.2 0
  have y0 : (y 0).val < 256 := (y 0).isLt
  refine congrArg f (funext fun a => Fin.ext ?_)
  match a with
  | 0 =>
    show o + (y 0).val = (o + (y 0).val) % 2048
    rw [Nat.mod_eq_of_lt (by omega)]
  | 1 =>
    show 0 + (y 1).val = (y 1).val
    omega

theorem slice_row (f : FVec F S1x2048 .f32) (o : ℕ) (h : S1x2048.Slices ![0, o] S1x256) :
    extractStridedSlice S1x256 ![0, o] f h = rowAt f o := by
  funext y
  have h0 : o + 256 ≤ 2048 := h.2 1
  have y0 : (y 1).val < 256 := (y 1).isLt
  refine congrArg f (funext fun a => Fin.ext ?_)
  match a with
  | 0 =>
    show 0 + (y 0).val = (y 0).val
    omega
  | 1 =>
    show o + (y 1).val = (o + (y 1).val) % 2048
    rw [Nat.mod_eq_of_lt (by omega)]

/-- The score tile of 256 queries against 256 keys. -/
def scoreT (fq : FVec F S256x1 .f32) (fk : FVec F S1x256 .f32) (q k : Vec F S256x128 .bf16) : FVec F S256x256 .f32 :=
  addf (matmul dot_S256x128_S256x128_S256x256_1_1_0_0_n_n none q k (constant S256x256 .f32 0x00000000#32))
    (subf (broadcastTo S256x256 fq broadcasts_S256x1_S256x256) (broadcastTo S256x256 fk broadcasts_S1x256_S256x256))

/-- A tile with the entries right of the diagonal set to minus infinity. -/
def maskT (s : FVec F S256x256 .f32) : FVec F S256x256 .f32 :=
  select k0_pay15 s (broadcast S256x256 (Scalar.ofBits .f32 0xFF800000#32))

/-- The running maximum, lane by lane, over one more tile. -/
def maxStep (a : FVec F S256x128 .f32) (s : FVec F S256x256 .f32) : FVec F S256x128 .f32 :=
  maximumf (maximumf a (extractStridedSlice S256x128 ![0, 0] s slices_S256x256_o0_0_S256x128))
    (extractStridedSlice S256x128 ![0, 128] s slices_S256x256_o0_128_S256x128)

/-- The running sum, lane by lane, over one more tile. -/
def sumStep (a : FVec F S256x128 .f32) (s : FVec F S256x256 .f32) : FVec F S256x128 .f32 :=
  addf (addf a (extractStridedSlice S256x128 ![0, 0] s slices_S256x256_o0_0_S256x128))
    (extractStridedSlice S256x128 ![0, 128] s slices_S256x256_o0_128_S256x128)

/-- The maximum over the lanes. -/
def laneMax (a : FVec F S256x128 .f32) : FVec F S256x1 .f32 :=
  shapeCast S256x1 (multiReduction .maximumf [1] S256 a 0xFF800000#32 reduces_S256x128_S256 (.inl rfl) rfl) shapeCasts_S256_S256x1

/-- The sum over the lanes. -/
def laneSum (a : FVec F S256x128 .f32) : FVec F S256x1 .f32 :=
  shapeCast S256x1 (multiReduction .add [1] S256 a 0x00000000#32 reduces_S256x128_S256 (.inl rfl) rfl) shapeCasts_S256_S256x1

/-- The weight tile of a score tile as it comes back from the scratch, under the row maxima `M`. -/
def weightT (M : FVec F S256x1 .f32) (s : Vec F S1x256x256 .f32) : FVec F S256x256 .f32 :=
  exp2 (subf (shapeCast S256x256 s shapeCasts_S1x256x256_S256x256) (broadcastTo S256x256 M broadcasts_S256x1_S256x256))

section
variable (fq : FVec F S2048x1 .f32) (fk : FVec F S1x2048 .f32) (q k : Vec F S2048x128 .bf16)

/-- The score tile of query block `i` against key block `c`, masked on the diagonal. -/
def tile (i c : ℕ) : FVec F S256x256 .f32 :=
  if c = i then maskT (scoreT (colAt fq (256 * i)) (rowAt fk (256 * c)) (rowsAt q (256 * i)) (rowsAt k (256 * c)))
  else scoreT (colAt fq (256 * i)) (rowAt fk (256 * c)) (rowsAt q (256 * i)) (rowsAt k (256 * c))

/-- The same as the scratch holds it. -/
def tile3 (i c : ℕ) : FVec F S1x256x256 .f32 := shapeCast S1x256x256 (tile fq fk q k i c) shapeCasts_S256x256_S1x256x256

/-- The running maximum over the first `n` tiles of block `i`. -/
def maxFold (i : ℕ) : ℕ → FVec F S256x128 .f32
  | 0 => k0_pay3
  | n + 1 => maxStep (maxFold i n) (tile fq fk q k i n)

/-- The row maxima of block `i`. -/
def rowMax (i : ℕ) : FVec F S256x1 .f32 := laneMax (maxFold fq fk q k i (i + 1))

/-- The weight tile of query block `i` against key block `c`. -/
def wtile (i c : ℕ) : FVec F S256x256 .f32 := weightT (rowMax fq fk q k i) (tile3 fq fk q k i c)

/-- The same, rounded, as the scratch holds it. -/
def wtile3 (i c : ℕ) : FVec F S1x256x256 .bf16 :=
  shapeCast S1x256x256 (truncf .bf16 (wtile fq fk q k i c) bitsLt_bf16_f32) shapeCasts_S256x256_S1x256x256

/-- The running sum over the first `n` weight tiles of block `i`. -/
def sumFold (i : ℕ) : ℕ → FVec F S256x128 .f32
  | 0 => k0_pay7
  | n + 1 => sumStep (sumFold i n) (wtile fq fk q k i n)

end

/-- The weight at row `a` of query block `i` and column `j`, as the scratch holds it. -/
def wAt (fq : FVec F S2048x1 .f32) (fk : FVec F S1x2048 .f32) (q k : Vec F S2048x128 .bf16) (i : ℕ) (a : Fin 256) (j : ℕ) : F .bf16 :=
  wtile3 fq fk q k i (j / 256) (ix3 0 a ⟨j % 256, Nat.mod_lt _ (by decide)⟩)

/-- The first `n` weights of every row of query block `i`, as the scratch holds them. -/
def wrow (fq : FVec F S2048x1 .f32) (fk : FVec F S1x2048 .f32) (q k : Vec F S2048x128 .bf16) (i : ℕ) {n : ℕ} : FVec F ⟨3, ![1, 256, n]⟩ .bf16 :=
  fun y => wAt fq fk q k i (y 1) (y 2).val

/-- One stored weight tile of the list a row is loaded from: the load reads it right of its first column, and the older pieces left of it. -/
theorem wstep (fq : FVec F S2048x1 .f32) (fk : FVec F S1x2048 .f32) (q k : Vec F S2048x128 .bf16) (i : ℕ) {s o : ℕ}
    (inb : ∀ a, ![s, 0, o] a + ![1, 256, 256] a ≤ S2x256x2048.size a)
    (w : FVec F S1x256x256 .bf16) (L : List (View.Piece (Elt F) S2x256x2048 .bf16)) (z : S2x256x2048.Idx) (a : Fin 256) (j : ℕ)
    (h0 : (z 0).val = s) (h1 : (z 1).val = a.val) (h2 : (z 2).val = j) (h : j < o + 256) (ho : o / 256 * 256 = o)
    (hw : w = wtile3 fq fk q k i (o / 256)) (hL : j < o → View.canon L z = wAt fq fk q k i a j) :
    View.canon (⟨Rect.unit (s := S2x256x2048) ![s, 0, o] ![1, 256, 256] inb, w⟩ :: L) z = wAt fq fk q k i a j := by
  by_cases hj : j < o
  · rw [View.canon_cons_of_not_mem, hL hj]
    intro hm
    have := ((LoadRect.mem_set _).mp hm) 2
    obtain ⟨n, -, hn⟩ := this
    have hn' : (z 2).val = o + 1 * n := hn
    omega
  · have hz : z = (Rect.unit (s := S2x256x2048) ![s, 0, o] ![1, 256, 256] inb).emb (ix3 0 a ⟨j - o, by omega⟩) := by
      funext b
      apply Fin.ext
      match b with
      | 0 => show (z 0).val = s + 1 * 0; omega
      | 1 => show (z 1).val = 0 + 1 * a.val; omega
      | 2 => show (z 2).val = o + 1 * (j - o); omega
    rw [hz, View.canon_cons_emb, hw]
    have e1 : j / 256 = o / 256 := by omega
    have e2 : j % 256 = j - o := by omega
    unfold wAt
    simp only [e1, e2]

/-- A load of a whole row of weight tiles, when the stored pieces hold the weights. -/
theorem readRow (fq : FVec F S2048x1 .f32) (fk : FVec F S1x2048 .f32) (q k : Vec F S2048x128 .bf16) (i : ℕ) {n s : ℕ}
    (v : View sig .tc .vmem S2x256x2048 .bf16) (L : List (View.Piece (Elt F) S2x256x2048 .bf16))
    (inb : ∀ a, ![s, 0, 0] a + ![1, 256, n] a ≤ S2x256x2048.size a)
    (h : ∀ (z : S2x256x2048.Idx) (a : Fin 256), (z 0).val = s → (z 1).val = a.val → (z 2).val < n → View.canon L z = wAt fq fk q k i a (z 2).val) :
    v.readCov L (Rect.unit (s := S2x256x2048) ![s, 0, 0] ![1, 256, n] inb).toLoadRect = wrow fq fk q k i (n := n) := by
  rw [View.readCov_eq_canon']
  funext y
  have y0 : (y 0).val < 1 := (y 0).isLt
  have y2 : (y 2).val < n := (y 2).isLt
  have e2 : (((Rect.unit (s := S2x256x2048) ![s, 0, 0] ![1, 256, n] inb).toLoadRect.idx y) 2).val = (y 2).val := by
    show 0 + 1 * (y 2).val = _
    omega
  refine (h _ (y 1) ?_ ?_ ?_).trans ?_
  · show s + 1 * (y 0).val = s
    omega
  · show 0 + 1 * (y 1).val = (y 1).val
    omega
  · rw [e2]; exact y2
  · rw [e2]; rfl

/-- The first block's weight row is its one tile. -/
theorem wtile3_zero (fq : FVec F S2048x1 .f32) (fk : FVec F S1x2048 .f32) (q k : Vec F S2048x128 .bf16) :
    wtile3 fq fk q k 0 0 = wrow fq fk q k 0 := by
  funext y
  have y2 : (y 2).val < 256 := (y 2).isLt
  unfold wrow wAt
  rw [Nat.div_eq_of_lt y2]
  refine congrArg _ (funext fun b => Fin.ext ?_)
  match b with
  | 0 => exact Nat.lt_one_iff.mp (y 0).isLt
  | 1 => rfl
  | 2 => exact (Nat.mod_eq_of_lt y2).symm

/-- The first `n` rows of a block. -/
def headRows (x : Vec F S2048x128 .bf16) {n : ℕ} : Vec F ⟨2, ![n, 128]⟩ .bf16 :=
  fun y => x (ix2 ⟨(y 0).val % 2048, Nat.mod_lt _ (by decide)⟩ (y 1))

theorem readAt_head (m : Memref sig .tc .vmem S2048x128 .bf16) (h : m.IsWhole) (x : Vec F S2048x128 .bf16) {n : ℕ}
    (inb : ∀ a, ![0, 0] a + ![n, 128] a ≤ S2048x128.size a) :
    View.readAt (Elt F) m.view (Rect.unit (s := S2048x128) ![0, 0] ![n, 128] inb).toLoadRect (h.unread x) = headRows x (n := n) := by
  funext y
  rw [Memref.IsWhole.readAt_unread]
  have h0 : 0 + n ≤ 2048 := inb 0
  have y0 : (y 0).val < n := (y 0).isLt
  refine congrArg x (funext fun a => Fin.ext ?_)
  match a with
  | 0 =>
    show 0 + 1 * (y 0).val = (y 0).val % 2048
    rw [Nat.mod_eq_of_lt (by omega)]
    omega
  | 1 =>
    show 0 + 1 * (y 1).val = (y 1).val
    omega

/-- The weights of query block `i` times the values of the keys up to its last row. -/
def pvTile (fq : FVec F S2048x1 .f32) (fk : FVec F S1x2048 .f32) (q k v : Vec F S2048x128 .bf16) : ℕ → FVec F S256x128 .f32
  | 0 => matmul dot_S256x256_S256x128_S256x128_1_0_0_1_n_n none (shapeCast S256x256 (wrow fq fk q k 0) shapeCasts_S1x256x256_S256x256) (rowsAt v 0) (constant S256x128 .f32 0x00000000#32)
  | 1 => matmul dot_S256x512_S512x128_S256x128_1_0_0_1_n_n none (shapeCast S256x512 (wrow fq fk q k 1) shapeCasts_S1x256x512_S256x512) (headRows v) (constant S256x128 .f32 0x00000000#32)
  | 2 => matmul dot_S256x768_S768x128_S256x128_1_0_0_1_n_n none (shapeCast S256x768 (wrow fq fk q k 2) shapeCasts_S1x256x768_S256x768) (headRows v) (constant S256x128 .f32 0x00000000#32)
  | 3 => matmul dot_S256x1024_S1024x128_S256x128_1_0_0_1_n_n none (shapeCast S256x1024 (wrow fq fk q k 3) shapeCasts_S1x256x1024_S256x1024) (headRows v) (constant S256x128 .f32 0x00000000#32)
  | 4 => matmul dot_S256x1280_S1280x128_S256x128_1_0_0_1_n_n none (shapeCast S256x1280 (wrow fq fk q k 4) shapeCasts_S1x256x1280_S256x1280) (headRows v) (constant S256x128 .f32 0x00000000#32)
  | 5 => matmul dot_S256x1536_S1536x128_S256x128_1_0_0_1_n_n none (shapeCast S256x1536 (wrow fq fk q k 5) shapeCasts_S1x256x1536_S256x1536) (headRows v) (constant S256x128 .f32 0x00000000#32)
  | 6 => matmul dot_S256x1792_S1792x128_S256x128_1_0_0_1_n_n none (shapeCast S256x1792 (wrow fq fk q k 6) shapeCasts_S1x256x1792_S256x1792) (headRows v) (constant S256x128 .f32 0x00000000#32)
  | _ => matmul dot_S256x2048_S2048x128_S256x128_1_0_0_1_n_n none (shapeCast S256x2048 (wrow fq fk q k 7) shapeCasts_S1x256x2048_S256x2048) (headRows v) (constant S256x128 .f32 0x00000000#32)

/-- The output tile of query block `i`: the weighted values over the sum of the weights. -/
def outTile (fq : FVec F S2048x1 .f32) (fk : FVec F S1x2048 .f32) (q k v : Vec F S2048x128 .bf16) (i : ℕ) : FVec F S256x128 .bf16 :=
  truncf .bf16 (divf (pvTile fq fk q k v i) (broadcastTo S256x128 (laneSum (sumFold fq fk q k i (i + 1))) broadcasts_S256x1_S256x128)) bitsLt_bf16_f32

/-- One stored output tile of the list the output block is read from. -/
theorem ostep (fq : FVec F S2048x1 .f32) (fk : FVec F S1x2048 .f32) (q k v : Vec F S2048x128 .bf16) {o : ℕ}
    (inb : ∀ a, ![o, 0] a + ![256, 128] a ≤ S2048x128.size a)
    (w : FVec F S256x128 .bf16) (L : List (View.Piece (Elt F) S2048x128 .bf16)) (z : S2048x128.Idx) (j : ℕ) (b : Fin 128)
    (h0 : (z 0).val = j) (h1 : z 1 = b) (h : j < o + 256) (ho : o / 256 * 256 = o)
    (hw : w = outTile fq fk q k v (o / 256))
    (hL : j < o → View.canon L z = outTile fq fk q k v (j / 256) (ix2 ⟨j % 256, Nat.mod_lt _ (by decide)⟩ b)) :
    View.canon (⟨Rect.unit (s := S2048x128) ![o, 0] ![256, 128] inb, w⟩ :: L) z =
      outTile fq fk q k v (j / 256) (ix2 ⟨j % 256, Nat.mod_lt _ (by decide)⟩ b) := by
  by_cases hj : j < o
  · rw [View.canon_cons_of_not_mem, hL hj]
    intro hm
    have := ((LoadRect.mem_set _).mp hm) 0
    obtain ⟨n, -, hn⟩ := this
    have hn' : (z 0).val = o + 1 * n := hn
    omega
  · have hz : z = (Rect.unit (s := S2048x128) ![o, 0] ![256, 128] inb).emb (ix2 ⟨j - o, by omega⟩ b) := by
      funext b'
      apply Fin.ext
      match b' with
      | 0 => show (z 0).val = o + 1 * (j - o); omega
      | 1 => show (z 1).val = 0 + 1 * b.val; rw [h1]; omega
    rw [hz, View.canon_cons_emb, hw]
    have e1 : j / 256 = o / 256 := by omega
    have e2 : j % 256 = j - o := by omega
    simp only [e1, e2]

section
open kernelRun0_A

variable (c : Dev nD) (i : grid0.Coords) (arg2 : Memref sig .tc .vmem S2048x128 .bf16) (harg2 : arg2.IsWhole) (arg3 : Memref sig .tc .vmem S2048x128 .bf16) (harg3 : arg3.IsWhole) (arg5 : Memref sig .tc .vmem S2048x128 .f32) (harg5 : arg5.IsWhole) (arg6 : Memref sig .tc .vmem S1x8x2048 .f32) (harg6 : arg6.IsWhole)
  (arg8 : Memref sig .tc .vmem S2x256x2048 .f32) (arg9 : Memref sig .tc .vmem S2x256x2048 .bf16)
  (x0 : Vec F S2048x128 .bf16) (x1 : Vec F S2048x128 .bf16) (x3 : Vec F S2048x128 .f32) (x4 : Vec F S1x8x2048 .f32)
  {fq : FVec F S2048x1 .f32} {fk : FVec F S1x2048 .f32}

/-- The maxima the run names: the running maximum of each query block, and the row maxima where the run names those. -/
theorem max_words (hq : sl.r c i arg5 harg5 x3 = fq) (hk : sl.r_1 c i arg6 harg6 x4 = fk) :
    sl.r_2 c i arg2 harg2 arg3 harg3 arg5 harg5 arg6 harg6 x0 x1 x3 x4 = rowMax fq fk x0 x1 0 ∧
    sl.r_7 c i arg2 harg2 arg3 harg3 arg5 harg5 arg6 harg6 x0 x1 x3 x4 = rowMax fq fk x0 x1 1 ∧
    sl.r_13 c i arg2 harg2 arg3 harg3 arg5 harg5 arg6 harg6 x0 x1 x3 x4 = maxFold fq fk x0 x1 2 3 ∧
    sl.r_22 c i arg2 harg2 arg3 harg3 arg5 harg5 arg6 harg6 x0 x1 x3 x4 = maxFold fq fk x0 x1 3 4 ∧
    sl.r_34 c i arg2 harg2 arg3 harg3 arg5 harg5 arg6 harg6 x0 x1 x3 x4 = maxFold fq fk x0 x1 4 5 ∧
    sl.r_50 c i arg2 harg2 arg3 harg3 arg5 harg5 arg6 harg6 x0 x1 x3 x4 = rowMax fq fk x0 x1 5 ∧
    sl.r_64 c i arg2 harg2 arg3 harg3 arg5 harg5 arg6 harg6 x0 x1 x3 x4 = maxFold fq fk x0 x1 6 7 ∧
    sl.r_85 c i arg2 harg2 arg3 harg3 arg5 harg5 arg6 harg6 x0 x1 x3 x4 = maxFold fq fk x0 x1 7 7 ∧
    sl.r_87 c i arg2 harg2 arg3 harg3 arg5 harg5 arg6 harg6 x0 x1 x3 x4 = tile fq fk x0 x1 7 7 := by
  subst hq hk
  refine ⟨?_, ?_, ?_, ?_, ?_, ?_, ?_, ?_, ?_⟩ <;>
  simp only [
    sl.cst_33, sl.r_2, sl.r_3, sl.r_4, sl.r_6, sl.r_7, sl.r_8, sl.r_9, sl.r_10, sl.r_13, sl.r_15, sl.r_17, sl.r_18, sl.r_19, sl.r_21, sl.r_22,
    sl.r_26, sl.r_28, sl.r_30, sl.r_32, sl.r_34, sl.r_38, sl.r_40, sl.r_41, sl.r_43, sl.r_45, sl.r_48, sl.r_50, sl.r_51, sl.r_53, sl.r_54, sl.r_55,
    sl.r_58, sl.r_60, sl.r_62, sl.r_63, sl.r_64, sl.r_67, sl.r_70, sl.r_72, sl.r_73, sl.r_74, sl.r_76, sl.r_77, sl.r_80, sl.r_82, sl.r_83, sl.r_84,
    sl.r_85, sl.r_87, k0_pay75, k0_pay183, k0_pay157, k0_pay43, k0_pay118, k0_pay116, k0_pay133, k0_pay112, k0_pay110, k0_pay95, k0_pay93, k0_pay127,
    k0_pay39, k0_pay37, k0_pay88, k0_pay86, k0_pay28, k0_pay26, k0_pay71, k0_pay69, k0_pay182, k0_pay177, k0_pay175, k0_pay19, k0_pay16, k0_pay65,
    k0_pay63, k0_pay10, k0_pay8, k0_pay15, k0_pay21, k0_pay23, k0_pay53, k0_pay51, k0_pay46, k0_pay105, k0_pay44, k0_pay101, k0_pay99, k0_pay147,
    k0_pay145, k0_pay14, k0_pay196, k0_pay194, k0_pay151, k0_pay203, k0_pay201, k0_pay6, k0_pay4, k0_pay45, k0_pay209, k0_pay208, k0_pay216,
    k0_pay135, k0_pay128, k0_pay164, k0_pay162, k0_pay181, k0_pay34, k0_pay32, k0_pay212, k0_pay210, k0_pay159, k0_pay152, k0_pay140, k0_pay138,
    k0_pay58, k0_pay56, k0_pay82, k0_pay80, k0_pay207, k0_pay125, k0_pay122, k0_pay170, k0_pay168, k0_pay191, k0_pay189, k0_pay184, readAt_rows,
    slice_col, slice_row] <;>
  rfl

set_option maxHeartbeats 2000000 in
/-- What the run loads back from the weight scratch: the whole row of weight tiles of each query block. -/
theorem row_words (hq : sl.r c i arg5 harg5 x3 = fq) (hk : sl.r_1 c i arg6 harg6 x4 = fk) :
    sl.v88 c i arg2 harg2 arg3 harg3 arg5 harg5 arg6 harg6 arg8 arg9 x0 x1 x3 x4 = wrow fq fk x0 x1 0 ∧
    sl.v180 c i arg2 harg2 arg3 harg3 arg5 harg5 arg6 harg6 arg8 arg9 x0 x1 x3 x4 = wrow fq fk x0 x1 1 ∧
    sl.v301 c i arg2 harg2 arg3 harg3 arg5 harg5 arg6 harg6 arg8 arg9 x0 x1 x3 x4 = wrow fq fk x0 x1 2 ∧
    sl.v451 c i arg2 harg2 arg3 harg3 arg5 harg5 arg6 harg6 arg8 arg9 x0 x1 x3 x4 = wrow fq fk x0 x1 3 ∧
    sl.v630 c i arg2 harg2 arg3 harg3 arg5 harg5 arg6 harg6 arg8 arg9 x0 x1 x3 x4 = wrow fq fk x0 x1 4 ∧
    sl.v838 c i arg2 harg2 arg3 harg3 arg5 harg5 arg6 harg6 arg8 arg9 x0 x1 x3 x4 = wrow fq fk x0 x1 5 ∧
    sl.v1075 c i arg2 harg2 arg3 harg3 arg5 harg5 arg6 harg6 arg8 arg9 x0 x1 x3 x4 = wrow fq fk x0 x1 6 ∧
    sl.v1192 c i arg2 harg2 arg3 harg3 arg5 harg5 arg6 harg6 arg8 arg9 x0 x1 x3 x4 = wrow fq fk x0 x1 7 := by
  obtain ⟨m0, m1, m2, m3, m4, m5, m6, m7, t7⟩ := max_words c i arg2 harg2 arg3 harg3 arg5 harg5 arg6 harg6 x0 x1 x3 x4 hq hk
  subst hq hk
  refine ⟨?_, ?_, ?_, ?_, ?_, ?_, ?_, ?_⟩ <;>
  (simp (disch := decide) only [↓ View.readCov_skip, ↓ View.readCov_cons_toLoadRect, m0, m1, m2, m3, m4, m5, m6, m7, t7,
    sl.HS0_2, sl.HS0_4, sl.HS0_5, sl.HS0_7, sl.HS0_8, sl.HS0_9, sl.HS0_11, sl.HS0_12, sl.HS0_13, sl.HS0_14, sl.HS0_16, sl.HS0_17, sl.HS0_18,
    sl.HS0_19, sl.HS0_20, sl.HS0_22, sl.HS0_23, sl.HS0_24, sl.HS0_25, sl.HS0_26, sl.HS0_27, sl.HS0_29, sl.HS0_30, sl.HS0_31, sl.HS0_32, sl.HS0_33,
    sl.HS0_34, sl.HS0_35, sl.HS0_36, sl.HS1_1, sl.HS1_3, sl.HS1_6, sl.HS1_10, sl.HS1_15, sl.HS1_21, sl.HS1_25, sl.HS1_28, sl.HS1_36, sl.cst_33,
    sl.r_3, sl.r_6, sl.r_11, sl.r_14, sl.r_17, sl.r_18, sl.r_19, sl.r_25, sl.r_30, sl.r_33, sl.r_37, sl.r_40, sl.r_43, sl.r_46, sl.r_51, sl.r_57,
    sl.r_60, sl.r_66, sl.r_69, sl.r_72, sl.r_73, sl.r_74, sl.r_79, sl.r_82, sl.r_83, sl.r_84, sl.r_88, sl.r_89, sl.r_92, sl.r_95, sl.v1010, sl.v115,
    sl.v1039, sl.v144, sl.v1075, sl.v180, sl.v1086, sl.v1099, sl.v1112, sl.v1125, sl.v1138, sl.v1151, sl.v1164, sl.v1177, sl.v1192, sl.v207, sl.v236,
    sl.v265, sl.v301, sl.v328, sl.v357, sl.v386, sl.v415, sl.v451, sl.v478, sl.v52, sl.v507, sl.v536, sl.v565, sl.v594, sl.v630, sl.v657, sl.v686,
    sl.v715, sl.v744, sl.v773, sl.v802, sl.v88, sl.v838, sl.v865, sl.v894, sl.v923, sl.v952, sl.v981, k0_pay75, k0_pay94, k0_pay93, k0_pay57,
    k0_pay56, k0_pay139, k0_pay138, k0_pay183, k0_pay134, k0_pay133, k0_pay22, k0_pay21, k0_pay76, k0_pay169, k0_pay168, k0_pay43, k0_pay117,
    k0_pay116, k0_pay87, k0_pay86, k0_pay64, k0_pay63, k0_pay27, k0_pay26, k0_pay176, k0_pay175, k0_pay100, k0_pay99, k0_pay158, k0_pay157,
    k0_pay127, k0_pay129, k0_pay128, k0_pay182, k0_pay47, k0_pay46, k0_pay15, k0_pay105, k0_pay44, k0_pay52, k0_pay51, k0_pay211, k0_pay210,
    k0_pay14, k0_pay151, k0_pay217, k0_pay216, k0_pay209, k0_pay45, k0_pay190, k0_pay189, k0_pay111, k0_pay110, k0_pay70, k0_pay69, k0_pay9, k0_pay8,
    k0_pay208, k0_pay146, k0_pay145, k0_pay202, k0_pay201, k0_pay123, k0_pay122, k0_pay181, k0_pay106, k0_pay163, k0_pay162, k0_pay153, k0_pay152,
    k0_pay17, k0_pay16, k0_pay81, k0_pay80, k0_pay195, k0_pay194, k0_pay33, k0_pay32, k0_pay5, k0_pay4, k0_pay207, k0_pay38, k0_pay37, k0_pay185,
    k0_pay184, readAt_rows, slice_col, slice_row]
   first
    | refine readRow _ _ x0 x1 _ _ _ _ fun z a h0 h1 h2 => ?_
    | exact wtile3_zero _ _ x0 x1
   all_goals repeat' first
    | exact fun h => absurd h (Nat.not_lt_zero _)
    | refine fun h => wstep _ _ x0 x1 _ _ _ _ z a _ h0 h1 rfl h rfl rfl ?_
    | refine wstep _ _ x0 x1 _ _ _ _ z a _ h0 h1 rfl h2 rfl rfl ?_)

end

end Cert.Attn
-- ==== Proof.Attn.Out.lean ====
/- What the attention kernel's run leaves in its output block, as the tiles of Tensor.lean. -/
module

public import proofs.«01_k».proof.Proof.Attn.Tensor
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

variable {F : FTy → Type} [FloatOps F]

section
open kernelRun0_A

variable (c : Dev nD) (i : grid0.Coords) (arg2 : Memref sig .tc .vmem S2048x128 .bf16) (harg2 : arg2.IsWhole) (arg3 : Memref sig .tc .vmem S2048x128 .bf16) (harg3 : arg3.IsWhole) (arg5 : Memref sig .tc .vmem S2048x128 .f32) (harg5 : arg5.IsWhole) (arg6 : Memref sig .tc .vmem S1x8x2048 .f32) (harg6 : arg6.IsWhole)
  (arg8 : Memref sig .tc .vmem S2x256x2048 .f32) (arg9 : Memref sig .tc .vmem S2x256x2048 .bf16)
  (x0 : Vec F S2048x128 .bf16) (x1 : Vec F S2048x128 .bf16) (x3 : Vec F S2048x128 .f32) (x4 : Vec F S1x8x2048 .f32)
  {fq : FVec F S2048x1 .f32} {fk : FVec F S1x2048 .f32}

/-- What the run leaves in the output block: the output tile of each query block, in its rows. -/
theorem out_words (arg4 : Memref sig .tc .vmem S2048x128 .bf16) (harg4 : arg4.IsWhole) (arg7 : Memref sig .tc .vmem S2048x128 .bf16) (harg7 : arg7.IsWhole)
    (harg8 : arg8.IsWhole) (harg9 : arg9.IsWhole) (x2 : Vec F S2048x128 .bf16)
    (hq : sl.r c i arg5 harg5 x3 = fq) (hk : sl.r_1 c i arg6 harg6 x4 = fk) :
    out0_A_5 c i arg2 harg2 arg3 harg3 arg4 harg4 arg5 harg5 arg6 harg6 arg7 harg7 arg8 harg8 arg9 harg9 x0 x1 x2 x3 x4 =
      fun y => outTile fq fk x0 x1 x2 ((y 0).val / 256) (ix2 ⟨(y 0).val % 256, Nat.mod_lt _ (by decide)⟩ (y 1)) := by
  obtain ⟨m0, m1, m2, m3, m4, m5, m6, m7, t7⟩ := max_words c i arg2 harg2 arg3 harg3 arg5 harg5 arg6 harg6 x0 x1 x3 x4 hq hk
  obtain ⟨w0, w1, w2, w3, w4, w5, w6, w7⟩ := row_words c i arg2 harg2 arg3 harg3 arg5 harg5 arg6 harg6 arg8 arg9 x0 x1 x3 x4 hq hk
  subst hq hk
  unfold out0_A_5
  rw [View.read_writes_eq_canon _ _ _ (cover0_A_5 c i arg2 harg2 arg3 harg3 arg4 harg4 arg5 harg5 arg6 harg6 arg7 harg7 arg8 harg8 arg9 harg9 x0 x1 x2 x3 x4)]
  unfold kernelRun0_A
  funext y
  have y0 : (y 0).val < 2048 := (y 0).isLt
  simp (disch := decide) only [↓ View.readCov_skip, ↓ View.readCov_cons_toLoadRect, m0, m1, m2, m3, m4, m5, m6, m7, t7, w0, w1, w2, w3, w4, w5, w6, w7,
    sl.HS0_2, sl.HS0_4, sl.HS0_5, sl.HS0_7, sl.HS0_8, sl.HS0_9, sl.HS0_11, sl.HS0_12, sl.HS0_13, sl.HS0_14, sl.HS0_16, sl.HS0_17, sl.HS0_18,
    sl.HS0_19, sl.HS0_20, sl.HS0_22, sl.HS0_23, sl.HS0_24, sl.HS0_25, sl.HS0_26, sl.HS0_27, sl.HS0_29, sl.HS0_30, sl.HS0_31, sl.HS0_32, sl.HS0_33,
    sl.HS0_34, sl.HS0_35, sl.HS0_36, sl.cst_33, sl.r_3, sl.r_5, sl.r_6, sl.r_12, sl.r_14, sl.r_16, sl.r_17, sl.r_18, sl.r_19, sl.r_20, sl.r_23,
    sl.r_24, sl.r_25, sl.r_27, sl.r_29, sl.r_30, sl.r_31, sl.r_33, sl.r_35, sl.r_36, sl.r_37, sl.r_39, sl.r_40, sl.r_42, sl.r_43, sl.r_44, sl.r_46,
    sl.r_47, sl.r_49, sl.r_51, sl.r_52, sl.r_56, sl.r_59, sl.r_60, sl.r_61, sl.r_65, sl.r_66, sl.r_68, sl.r_71, sl.r_72, sl.r_73, sl.r_74, sl.r_75,
    sl.r_78, sl.r_81, sl.r_82, sl.r_83, sl.r_84, sl.r_86, sl.r_88, sl.r_90, sl.r_91, sl.r_93, sl.r_94, sl.r_96, sl.r_97, sl.v1010, sl.v115, sl.v1039,
    sl.v144, sl.v1086, sl.v1099, sl.v1112, sl.v1125, sl.v1138, sl.v1151, sl.v1164, sl.v1177, sl.v207, sl.v236, sl.v265, sl.v328, sl.v357, sl.v386,
    sl.v415, sl.v478, sl.v52, sl.v507, sl.v536, sl.v565, sl.v594, sl.v657, sl.v686, sl.v715, sl.v744, sl.v773, sl.v802, sl.v865, sl.v894, sl.v923,
    sl.v952, sl.v981, k0_pay75, k0_pay94, k0_pay93, k0_pay57, k0_pay56, k0_pay139, k0_pay138, k0_pay183, k0_pay134, k0_pay133, k0_pay22, k0_pay21,
    k0_pay76, k0_pay169, k0_pay168, k0_pay43, k0_pay117, k0_pay116, k0_pay87, k0_pay86, k0_pay64, k0_pay63, k0_pay89, k0_pay27, k0_pay26, k0_pay176,
    k0_pay175, k0_pay100, k0_pay99, k0_pay158, k0_pay157, k0_pay127, k0_pay129, k0_pay128, k0_pay182, k0_pay47, k0_pay46, k0_pay15, k0_pay105,
    k0_pay44, k0_pay52, k0_pay51, k0_pay211, k0_pay210, k0_pay14, k0_pay151, k0_pay217, k0_pay216, k0_pay209, k0_pay45, k0_pay9, k0_pay8, k0_pay111,
    k0_pay110, k0_pay190, k0_pay189, k0_pay70, k0_pay69, k0_pay208, k0_pay146, k0_pay145, k0_pay202, k0_pay201, k0_pay123, k0_pay122, k0_pay181,
    k0_pay106, k0_pay163, k0_pay162, k0_pay153, k0_pay152, k0_pay17, k0_pay16, k0_pay81, k0_pay80, k0_pay5, k0_pay4, k0_pay33, k0_pay32, k0_pay195,
    k0_pay194, k0_pay207, k0_pay38, k0_pay37, k0_pay185, k0_pay184, k0_pay89, readAt_rows, readAt_head, slice_col, slice_row]
  repeat' first
    | exact fun h => absurd h (Nat.not_lt_zero _)
    | refine fun h => ostep _ _ x0 x1 x2 _ _ _ y _ _ rfl rfl h rfl rfl ?_
    | refine ostep _ _ x0 x1 x2 _ _ _ y _ _ rfl rfl y0 rfl rfl ?_

end

end Cert.Attn
-- ==== Proof.Attn.Point.lean ====
/- The attention tiles read entry by entry over the extended reals. -/
module

public import proofs.«01_k».proof.Proof.Attn.Tensor
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

/-- The word of minus infinity. -/
theorem ofBits_negInf : Ideal.ofBits .f32 0xFF800000#32 = ⊥ := by
  simp [Ideal.ofBits, Ideal.ieee]

theorem eq_zero_of_ne_one {c : BitVec 1} (h : c ≠ 1#1) : c = 0#1 := by
  revert h; revert c; decide

theorem mask_apply (a b : Fin 256) : k0_pay15 (ix2 a b) = 1#1 ↔ b.val ≤ a.val := by
  pointwise [k0_pay15]
  have ea : (BitVec.ofNat 32 a.val).toInt = a.val := by
    rw [BitVec.toInt_ofNat', Int.bmod_eq_of_le] <;> omega
  have eb : (BitVec.ofNat 32 b.val).toInt = b.val := by
    rw [BitVec.toInt_ofNat', Int.bmod_eq_of_le] <;> omega
  by_cases h : b ≤ a <;> simp [IntOp.cmpi, BitVec.sle, ea, eb, h]

section
variable (fq : FVec Ideal S2048x1 .f32) (fk : FVec Ideal S1x2048 .f32) (q k v : FVec Ideal S2048x128 .bf16)

/-- The score of query `t` against key `j`: the dot product plus the difference of the gate sums, minus infinity for a later key. -/
def score (t j : Fin 2048) : EReal :=
  if j.val ≤ t.val then (∑ d : Fin 128, q (ix2 t d) * k (ix2 j d)) + (fq (ix2 t 0) - fk (ix2 0 j)) else ⊥

theorem scoreT_apply (fq : FVec Ideal S256x1 .f32) (fk : FVec Ideal S1x256 .f32) (q k : FVec Ideal S256x128 .bf16) (a b : Fin 256) :
    scoreT fq fk q k (ix2 a b) = (∑ d : Fin 128, q (ix2 a d) * k (ix2 b d)) + (fq (ix2 a 0) - fk (ix2 0 b)) := by
  pointwise [scoreT]

theorem maskT_apply (s : FVec Ideal S256x256 .f32) (a b : Fin 256) :
    maskT s (ix2 a b) = if b.val ≤ a.val then s (ix2 a b) else ⊥ := by
  pointwise [maskT]
  rw [ofBits_negInf]
  by_cases h : b.val ≤ a.val
  · rw [if_pos h, (mask_apply a b).2 h]; rfl
  · rw [if_neg h, eq_zero_of_ne_one fun e => h ((mask_apply a b).1 e)]; rfl

theorem maxStep_apply (x : FVec Ideal S256x128 .f32) (s : FVec Ideal S256x256 .f32) (a : Fin 256) (l : Fin 128) :
    maxStep x s (ix2 a l) = max (max (x (ix2 a l)) (s (ix2 a ⟨l.val, by omega⟩))) (s (ix2 a ⟨128 + l.val, by omega⟩)) := by
  pointwise [maxStep]

theorem sumStep_apply (x : FVec Ideal S256x128 .f32) (s : FVec Ideal S256x256 .f32) (a : Fin 256) (l : Fin 128) :
    sumStep x s (ix2 a l) = x (ix2 a l) + s (ix2 a ⟨l.val, by omega⟩) + s (ix2 a ⟨128 + l.val, by omega⟩) := by
  pointwise [sumStep]

theorem laneMax_apply (x : FVec Ideal S256x128 .f32) (a : Fin 256) :
    laneMax x (ix2 a 0) = Finset.univ.fold max ⊥ (fun l : Fin 128 => x (ix2 a l)) := by
  pointwise [laneMax]
  rw [ofBits_negInf]

theorem laneSum_apply (x : FVec Ideal S256x128 .f32) (a : Fin 256) :
    laneSum x (ix2 a 0) = ∑ l : Fin 128, x (ix2 a l) := by
  pointwise [laneSum]

theorem weightT_apply (M : FVec Ideal S256x1 .f32) (s : FVec Ideal S1x256x256 .f32) (a b : Fin 256) :
    weightT M s (ix2 a b) = Ideal.exp2 (s (ix3 0 a b) - M (ix2 a 0)) := by
  pointwise [weightT]
  rfl

theorem tile_apply {i c : ℕ} (hi : i < 8) (hc : c ≤ i) (a b : Fin 256) :
    tile fq fk q k i c (ix2 a b) = score fq fk q k ⟨256 * i + a.val, by omega⟩ ⟨256 * c + b.val, by omega⟩ := by
  have ha := a.isLt
  have hb := b.isLt
  have e : scoreT (colAt fq (256 * i)) (rowAt fk (256 * c)) (rowsAt q (256 * i)) (rowsAt k (256 * c)) (ix2 a b) =
      (∑ d : Fin 128, q (ix2 ⟨256 * i + a.val, by omega⟩ d) * k (ix2 ⟨256 * c + b.val, by omega⟩ d)) +
        (fq (ix2 ⟨256 * i + a.val, by omega⟩ 0) - fk (ix2 0 ⟨256 * c + b.val, by omega⟩)) := by
    rw [scoreT_apply]
    have ea : (256 * i + a.val) % 2048 = 256 * i + a.val := Nat.mod_eq_of_lt (by omega)
    have eb : (256 * c + b.val) % 2048 = 256 * c + b.val := Nat.mod_eq_of_lt (by omega)
    simp only [rowsAt, colAt, rowAt, ix2_0, ix2_1, ea, eb]
  unfold tile score
  split_ifs with h1 h2 h2
  · subst h1
    rw [maskT_apply, e, if_pos (by simp only [] at h2; omega)]
  · subst h1
    rw [maskT_apply, if_neg (by simp only [] at h2; omega)]
  · rw [e]
  · simp only [] at h2; omega

theorem tile3_apply {i c : ℕ} (hi : i < 8) (hc : c ≤ i) (a b : Fin 256) :
    tile3 fq fk q k i c (ix3 0 a b) = score fq fk q k ⟨256 * i + a.val, by omega⟩ ⟨256 * c + b.val, by omega⟩ := by
  unfold tile3
  pointwise
  exact tile_apply fq fk q k hi hc a b

/-- The shift of row `t`: the maximum the kernel takes of its scores. -/
def shift (t : Fin 2048) : EReal := rowMax fq fk q k (t.val / 256) (ix2 ⟨t.val % 256, by omega⟩ 0)

/-- The weight of key `j` for query `t`. -/
def weight (t j : Fin 2048) : EReal := Ideal.exp2 (score fq fk q k t j - shift fq fk q k t)

theorem wtile_apply {i c : ℕ} (hi : i < 8) (hc : c ≤ i) (a b : Fin 256) :
    wtile fq fk q k i c (ix2 a b) = weight fq fk q k ⟨256 * i + a.val, by omega⟩ ⟨256 * c + b.val, by omega⟩ := by
  unfold wtile weight shift
  rw [weightT_apply, tile3_apply fq fk q k hi hc]
  have e1 : (256 * i + a.val) / 256 = i := by omega
  have e2 : (256 * i + a.val) % 256 = a.val := by omega
  simp only [e1, e2]

theorem wAt_apply {i : ℕ} (hi : i < 8) (a : Fin 256) (j : ℕ) (hj : j < 256 * (i + 1)) :
    wAt fq fk q k i a j = weight fq fk q k ⟨256 * i + a.val, by omega⟩ ⟨j, by omega⟩ := by
  unfold wAt wtile3
  pointwise
  rw [wtile_apply fq fk q k hi (by omega)]
  refine congrArg _ (Fin.ext ?_)
  show 256 * (j / 256) + j % 256 = j
  omega

theorem maxFold_zero_apply (i : ℕ) (a : Fin 256) (l : Fin 128) : maxFold fq fk q k i 0 (ix2 a l) = ⊥ := by
  show Ideal.ofBits .f32 0xFF800000#32 = ⊥
  exact ofBits_negInf

theorem sumFold_apply {i : ℕ} (hi : i < 8) (a : Fin 256) (l : Fin 128) (n : ℕ) (hn : n ≤ i + 1) :
    sumFold fq fk q k i n (ix2 a l) = ∑ c ∈ Finset.range n,
      ((fun j : ℕ => if h : j < 2048 then weight fq fk q k ⟨256 * i + a.val, by omega⟩ ⟨j, h⟩ else 0) (256 * c + l.val) +
       (fun j : ℕ => if h : j < 2048 then weight fq fk q k ⟨256 * i + a.val, by omega⟩ ⟨j, h⟩ else 0) (256 * c + (128 + l.val))) := by
  induction n with
  | zero =>
    rw [Finset.sum_range_zero]
    pointwise [sumFold, k0_pay7]
  | succ n ih =>
    rw [Finset.sum_range_succ, ← ih (by omega)]
    have hl := l.isLt
    rw [sumFold, sumStep_apply, wtile_apply fq fk q k hi (by omega), wtile_apply fq fk q k hi (by omega), add_assoc]
    simp only [dif_pos (show 256 * n + l.val < 2048 by omega), dif_pos (show 256 * n + (128 + l.val) < 2048 by omega)]

/-- The first `n` terms of a sum whose later terms vanish. -/
theorem sum_head {n : ℕ} (hn : n ≤ 2048) (f : Fin 2048 → EReal) (hz : ∀ j : Fin 2048, n ≤ j.val → f j = 0) :
    ∑ k : Fin n, f ⟨k.val, by omega⟩ = ∑ j, f j := by
  set g : ℕ → EReal := fun j => if h : j < 2048 then f ⟨j, h⟩ else 0 with hg
  have e1 : ∑ k : Fin n, f ⟨k.val, by omega⟩ = ∑ k ∈ Finset.range n, g k := by
    rw [← Fin.sum_univ_eq_sum_range]
    exact Finset.sum_congr rfl fun k _ => by rw [hg]; simp only [dif_pos (show k.val < 2048 by omega)]
  have e2 : ∑ j : Fin 2048, f j = ∑ k ∈ Finset.range 2048, g k := by
    rw [← Fin.sum_univ_eq_sum_range]
    exact Finset.sum_congr rfl fun k _ => by rw [hg]; simp only [dif_pos k.isLt]
  rw [e1, e2]
  refine Finset.sum_subset (Finset.range_mono hn) fun j hj hj' => ?_
  rw [Finset.mem_range] at hj hj'
  rw [hg]
  simp only [dif_pos hj]
  exact hz _ (by simpa using hj')

/-- A sum over lanes of tile pairs is the sum over the columns. -/
theorem sum_lanes (g : ℕ → EReal) (n : ℕ) :
    ∑ l : Fin 128, ∑ c ∈ Finset.range n, (g (256 * c + l.val) + g (256 * c + (128 + l.val))) = ∑ j ∈ Finset.range (256 * n), g j := by
  induction n with
  | zero => simp
  | succ n ih =>
    simp only [Finset.sum_range_succ, Finset.sum_add_distrib (f := fun l : Fin 128 => ∑ c ∈ Finset.range n, _)]
    rw [ih, Finset.sum_add_distrib, Nat.mul_succ, Finset.sum_range_add, Finset.sum_range_add (fun x => g (256 * n + x)) 128 128]
    rw [Fin.sum_univ_eq_sum_range (fun l => g (256 * n + l)), Fin.sum_univ_eq_sum_range (fun l => g (256 * n + (128 + l)))]

theorem score_later {t j : Fin 2048} (h : t.val < j.val) : score fq fk q k t j = ⊥ := if_neg (by omega)

theorem weight_later {t j : Fin 2048} (h : t.val < j.val) : weight fq fk q k t j = 0 := by
  unfold weight
  rw [score_later fq fk q k h, sub_eq_add_neg, EReal.bot_add]
  rfl

/-- The sum of the weights the kernel divides by. -/
theorem denom_apply {i : ℕ} (hi : i < 8) (a : Fin 256) :
    laneSum (sumFold fq fk q k i (i + 1)) (ix2 a 0) = ∑ j : Fin 2048, weight fq fk q k ⟨256 * i + a.val, by omega⟩ j := by
  rw [laneSum_apply]
  set g : ℕ → EReal := fun j => if h : j < 2048 then weight fq fk q k ⟨256 * i + a.val, by omega⟩ ⟨j, h⟩ else 0 with hg
  have hs : ∀ l : Fin 128, sumFold fq fk q k i (i + 1) (ix2 a l) =
      ∑ c ∈ Finset.range (i + 1), (g (256 * c + l.val) + g (256 * c + (128 + l.val))) := fun l => sumFold_apply fq fk q k hi a l (i + 1) le_rfl
  simp only [hs]
  rw [sum_lanes, ← Fin.sum_univ_eq_sum_range, ← sum_head (n := 256 * (i + 1)) (by omega) _ fun j hj => weight_later fq fk q k (by
    show 256 * i + a.val < j.val; omega)]
  exact Finset.sum_congr rfl fun l _ => by simp only [hg, dif_pos (show l.val < 2048 by omega)]

/-- A row of weights times a column of values, over the first `n` keys. -/
theorem pv_row {i n : ℕ} (hi : i < 8) (hn : n = 256 * (i + 1)) (a : Fin 256) (d : Fin 128)
    (w x : Fin n → EReal)
    (hw : ∀ j : Fin n, w j = wAt fq fk q k i a j.val) (hx : ∀ j : Fin n, x j = v (ix2 ⟨j.val, by omega⟩ d)) :
    ∑ j : Fin n, w j * x j =
      ∑ j : Fin 2048, weight fq fk q k ⟨256 * i + a.val, by omega⟩ j * v (ix2 j d) := by
  rw [← sum_head (n := n) (by omega) _ fun j hj => by
    rw [weight_later fq fk q k (show 256 * i + a.val < j.val by omega), zero_mul]]
  refine Finset.sum_congr rfl fun j _ => ?_
  rw [hw, hx, wAt_apply fq fk q k hi a j.val (by omega)]

theorem headRows_apply {n : ℕ} (hn : n ≤ 2048) (j : Fin n) (d : Fin 128) : headRows (F := Ideal) v (ix2 j d) = v (ix2 ⟨j.val, by omega⟩ d) := by
  have e : j.val % 2048 = j.val := Nat.mod_eq_of_lt (by omega)
  simp only [headRows, ix2_0, ix2_1, e]

theorem rowsAt_zero_apply (j : Fin 256) (d : Fin 128) : rowsAt (F := Ideal) (e := .bf16) v 0 (ix2 j d) = v (ix2 ⟨j.val, by omega⟩ d) := by
  have e : (0 + j.val) % 2048 = j.val := by omega
  simp only [rowsAt, ix2_0, ix2_1, e]

/-- The weighted sum of the values. -/
theorem pv_apply {i : ℕ} (hi : i < 8) (a : Fin 256) (d : Fin 128) :
    pvTile fq fk q k v i (ix2 a d) = ∑ j : Fin 2048, weight fq fk q k ⟨256 * i + a.val, by omega⟩ j * v (ix2 j d) := by
  generalize hR : (∑ j : Fin 2048, weight fq fk q k ⟨256 * i + a.val, by omega⟩ j * v (ix2 j d)) = R
  interval_cases i <;> unfold pvTile <;> pointwise <;> rw [← hR]
  · exact pv_row (i := 0) fq fk q k v (by decide) rfl a d (fun j => wrow fq fk q k 0 (ix3 0 a j)) (fun j => rowsAt (F := Ideal) (e := .bf16) v 0 (ix2 j d))
      (fun _ => rfl) (fun j => rowsAt_zero_apply v j d)
  · exact pv_row (i := 1) fq fk q k v (by decide) rfl a d (fun j => wrow fq fk q k 1 (ix3 0 a j)) (fun j => headRows (F := Ideal) v (ix2 j d))
      (fun _ => rfl) (fun j => headRows_apply v (by decide) j d)
  · exact pv_row (i := 2) fq fk q k v (by decide) rfl a d (fun j => wrow fq fk q k 2 (ix3 0 a j)) (fun j => headRows (F := Ideal) v (ix2 j d))
      (fun _ => rfl) (fun j => headRows_apply v (by decide) j d)
  · exact pv_row (i := 3) fq fk q k v (by decide) rfl a d (fun j => wrow fq fk q k 3 (ix3 0 a j)) (fun j => headRows (F := Ideal) v (ix2 j d))
      (fun _ => rfl) (fun j => headRows_apply v (by decide) j d)
  · exact pv_row (i := 4) fq fk q k v (by decide) rfl a d (fun j => wrow fq fk q k 4 (ix3 0 a j)) (fun j => headRows (F := Ideal) v (ix2 j d))
      (fun _ => rfl) (fun j => headRows_apply v (by decide) j d)
  · exact pv_row (i := 5) fq fk q k v (by decide) rfl a d (fun j => wrow fq fk q k 5 (ix3 0 a j)) (fun j => headRows (F := Ideal) v (ix2 j d))
      (fun _ => rfl) (fun j => headRows_apply v (by decide) j d)
  · exact pv_row (i := 6) fq fk q k v (by decide) rfl a d (fun j => wrow fq fk q k 6 (ix3 0 a j)) (fun j => headRows (F := Ideal) v (ix2 j d))
      (fun _ => rfl) (fun j => headRows_apply v (by decide) j d)
  · exact pv_row (i := 7) fq fk q k v (by decide) rfl a d (fun j => wrow fq fk q k 7 (ix3 0 a j)) (fun j => headRows (F := Ideal) v (ix2 j d))
      (fun _ => rfl) (fun j => headRows_apply v (by decide) j d)

/-- An output entry: the weighted sum of the values over the sum of the weights. -/
theorem outTile_apply (t : Fin 2048) (d : Fin 128) :
    outTile fq fk q k v (t.val / 256) (ix2 ⟨t.val % 256, by omega⟩ d) =
      Ideal.div (∑ j : Fin 2048, weight fq fk q k t j * v (ix2 j d)) (∑ j : Fin 2048, weight fq fk q k t j) := by
  have ht : (⟨256 * (t.val / 256) + t.val % 256, by omega⟩ : Fin 2048) = t := Fin.ext (by show 256 * (t.val / 256) + t.val % 256 = t.val; omega)
  unfold outTile
  pointwise
  rw [pv_apply fq fk q k v (by omega), denom_apply fq fk q k (by omega)]
  simp only [ht]

theorem maxFold_lt {i : ℕ} (hi : i < 8) (a : Fin 256) (l : Fin 128)
    (h : ∀ j, score fq fk q k ⟨256 * i + a.val, by omega⟩ j < ⊤) (n : ℕ) (hn : n ≤ i + 1) :
    maxFold fq fk q k i n (ix2 a l) < ⊤ := by
  induction n with
  | zero => rw [maxFold_zero_apply]; exact bot_lt_top
  | succ n ih =>
    rw [maxFold, maxStep_apply, tile_apply fq fk q k hi (by omega), tile_apply fq fk q k hi (by omega)]
    exact max_lt (max_lt (ih (by omega)) (h _)) (h _)

theorem le_maxFold {i : ℕ} (hi : i < 8) (a : Fin 256) (n : ℕ) (hn : n ≤ i) :
    score fq fk q k ⟨256 * i + a.val, by omega⟩ 0 ≤ maxFold fq fk q k i (n + 1) (ix2 a 0) := by
  induction n with
  | zero =>
    rw [maxFold, maxStep_apply, tile_apply fq fk q k hi (by omega)]
    exact le_max_of_le_left (le_max_right _ _)
  | succ n ih =>
    rw [maxFold, maxStep_apply]
    exact le_max_of_le_left (le_max_of_le_left (ih (by omega)))

/-- The shift of a row is a real number when its scores are finite or minus infinity and the first is finite. -/
theorem shift_real (t : Fin 2048) (h : ∀ j, score fq fk q k t j < ⊤) (h0 : ⊥ < score fq fk q k t 0) :
    ∃ r : ℝ, shift fq fk q k t = r := by
  have ht : (⟨256 * (t.val / 256) + t.val % 256, by omega⟩ : Fin 2048) = t := Fin.ext (by show 256 * (t.val / 256) + t.val % 256 = t.val; omega)
  have e : shift fq fk q k t ≠ ⊤ := by
    unfold shift rowMax
    rw [laneMax_apply]
    refine ne_of_lt ((Finset.fold_max_lt _).2 ⟨bot_lt_top, fun l _ => ?_⟩)
    exact maxFold_lt fq fk q k (by omega) _ l (by simpa only [ht] using h) _ le_rfl
  have e' : shift fq fk q k t ≠ ⊥ := by
    unfold shift rowMax
    rw [laneMax_apply]
    refine (lt_of_lt_of_le h0 ((Finset.le_fold_max _).2 (.inr ⟨0, Finset.mem_univ _, ?_⟩))).ne'
    have := le_maxFold fq fk q k (i := t.val / 256) (by omega) ⟨t.val % 256, by omega⟩ _ le_rfl
    simpa only [ht] using this
  exact ⟨_, (EReal.coe_toReal e e').symm⟩

end

end Cert.Attn

end
-- ==== Proof.Attn.Exact.lean ====
/- The two ways of taking a causal softmax mean of real numbers: with powers of two and one division at the end, or with exponentials and a division of every weight. -/
module

public import Idealize.ShloMosaic.PureOps.Ideal
public import Idealize.ShloMosaic.Lib.ValueIdx

@[expose] public section

set_option maxRecDepth 16384

noncomputable section

open Idealize.ShloMosaic Idealize.ShloMosaic.TcCoe Idealize.SL.Sem

namespace Cert.Attn

theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

theorem coe_div {x y : ℝ} (hy : y ≠ 0) : Ideal.div (x : EReal) (y : EReal) = ((x / y : ℝ) : EReal) := by
  rw [Ideal.div_coe hy, ← EReal.coe_mul, mul_one_div]

/-- The weights of the keys up to `t`, all scaled by `c`. -/
def wts {n : ℕ} (c : ℝ) (l : Fin n → ℝ) (t j : Fin n) : ℝ := if j.val ≤ t.val then c * (2 : ℝ) ^ l j else 0

/-- The mean of `v` under the weights `2 ^ l` of the keys up to `t`. -/
def mix {n : ℕ} (l v : Fin n → ℝ) (t : Fin n) : ℝ := (∑ j, wts 1 l t j * v j) / ∑ j, wts 1 l t j

theorem wts_scale {n : ℕ} (c : ℝ) (l : Fin n → ℝ) (t j : Fin n) : wts c l t j = c * wts 1 l t j := by
  unfold wts; split_ifs <;> simp

theorem wts_nonneg {n : ℕ} {c : ℝ} (hc : 0 < c) (l : Fin n → ℝ) (t j : Fin n) : 0 ≤ wts c l t j := by
  unfold wts; split_ifs
  · positivity
  · exact le_rfl

theorem wts_sum_pos {n : ℕ} {c : ℝ} (hc : 0 < c) (l : Fin n → ℝ) (t : Fin n) : 0 < ∑ j, wts c l t j :=
  lt_of_lt_of_le (by unfold wts; rw [if_pos le_rfl]; positivity)
    (Finset.single_le_sum (f := fun j => wts c l t j) (fun j _ => wts_nonneg hc l t j) (Finset.mem_univ t))

/-- A scale common to all the weights leaves the mean. -/
theorem mix_scale {n : ℕ} {c : ℝ} (hc : 0 < c) (l v : Fin n → ℝ) (t : Fin n) :
    (∑ j, wts c l t j * v j) / (∑ j, wts c l t j) = mix l v t := by
  unfold mix
  simp only [wts_scale c l t, mul_assoc, ← Finset.mul_sum]
  exact mul_div_mul_left _ _ hc.ne'

/-- Powers of two under a shift. -/
theorem exp2_wts {n : ℕ} (l : Fin n → ℝ) (t j : Fin n) (r : ℝ) :
    Ideal.exp2 ((if j.val ≤ t.val then (l j : EReal) else ⊥) - (r : EReal)) = ((wts ((2 : ℝ) ^ (-r)) l t j : ℝ) : EReal) := by
  unfold wts
  split_ifs
  · rw [← EReal.coe_sub]
    show ((Real.rpow 2 (l j - r) : ℝ) : EReal) = _
    rw [sub_eq_neg_add, show Real.rpow 2 (-r + l j) = (2 : ℝ) ^ (-r + l j) from rfl, Real.rpow_add two_pos]
  · rw [sub_eq_add_neg, EReal.bot_add]; rfl

/-- Exponentials under a shift, of `log 2` times the scores. -/
theorem exp_wts {n : ℕ} (l : Fin n → ℝ) (t j : Fin n) (r : ℝ) :
    Ideal.exp ((if j.val ≤ t.val then ((Real.log 2 * l j : ℝ) : EReal) else ⊥) - (r : EReal)) = ((wts (Real.exp (-r)) l t j : ℝ) : EReal) := by
  unfold wts
  split_ifs
  · rw [← EReal.coe_sub]
    show ((Real.exp (Real.log 2 * l j - r) : ℝ) : EReal) = _
    rw [sub_eq_neg_add, Real.exp_add, Real.rpow_def_of_pos two_pos]
  · rw [sub_eq_add_neg, EReal.bot_add]; rfl

/-- The mean with one division at the end. -/
theorem mean_late {n : ℕ} (w : Fin n → EReal) (v : Fin n → EReal) (c : ℝ) (hc : 0 < c) (l v' : Fin n → ℝ) (t : Fin n)
    (hw : ∀ j, w j = ((wts c l t j : ℝ) : EReal)) (hv : ∀ j, v j = (v' j : EReal)) :
    Ideal.div (∑ j, w j * v j) (∑ j, w j) = ((mix l v' t : ℝ) : EReal) := by
  simp only [hw, hv, ← EReal.coe_mul, ← coe_sum]
  rw [coe_div (wts_sum_pos hc l t).ne', mix_scale hc]

/-- The mean with every weight divided. -/
theorem mean_early {n : ℕ} (w : Fin n → EReal) (v : Fin n → EReal) (c : ℝ) (hc : 0 < c) (l v' : Fin n → ℝ) (t : Fin n)
    (hw : ∀ j, w j = ((wts c l t j : ℝ) : EReal)) (hv : ∀ j, v j = (v' j : EReal)) :
    (∑ j, v j * Ideal.div (w j) (∑ j, w j)) = ((mix l v' t : ℝ) : EReal) := by
  simp only [hw, hv, ← coe_sum, coe_div (wts_sum_pos hc l t).ne', ← EReal.coe_mul]
  rw [← mix_scale hc, Finset.sum_div]
  refine congrArg _ (Finset.sum_congr rfl fun j _ => ?_)
  ring

end Cert.Attn

end
-- ==== Proof.Attn.Kern.lean ====
/- The array the attention kernel leaves, entry by entry. -/
module

public import proofs.«01_k».proof.Proof.Attn.Out
public import proofs.«01_k».proof.Proof.Attn.Point
public import proofs.«01_k».proof.Proof.Attn.Exact
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

section
variable (x0 : FVec Ideal S32768x1536 .bf16) (x1 : FVec Ideal S32768x128 .f32) (x2 : FVec Ideal S16x8x2048 .f32)

/-- The part `p` (queries, keys, values) of batch element `b` and head `h`. -/
def part (p : Fin 3) (b : Fin 16) (h : Fin 4) : FVec Ideal S2048x128 .bf16 :=
  fun y => x0 (ix2 ⟨2048 * b.val + (y 0).val, by have : (y 0).val < 2048 := (y 0).isLt; omega⟩
    ⟨128 * (4 * p.val + h.val) + (y 1).val, by have : (y 1).val < 128 := (y 1).isLt; omega⟩)

/-- The gate sums of the queries of batch element `b` and head `h`. -/
def gateQ (b : Fin 16) (h : Fin 4) : FVec Ideal S2048x1 .f32 :=
  fun y => x1 (ix2 ⟨2048 * b.val + (y 0).val, by have : (y 0).val < 2048 := (y 0).isLt; omega⟩ ⟨h.val, by omega⟩)

/-- The gate sums of the keys of batch element `b` and head `h`. -/
def gateK (b : Fin 16) (h : Fin 4) : FVec Ideal S1x2048 .f32 :=
  fun y => x2 (ix3 b ⟨h.val, by omega⟩ (y 1))

/-- The kernel's result. -/
def attnArr : FVec Ideal S32768x512 .bf16 := fun i =>
  have h0 : (i 0).val < 32768 := (i 0).isLt
  have h1 : (i 1).val < 512 := (i 1).isLt
  let b : Fin 16 := ⟨(i 0).val / 2048, by omega⟩
  let h : Fin 4 := ⟨(i 1).val / 128, by omega⟩
  outTile (gateQ x1 b h) (gateK x2 b h) (part x0 0 b h) (part x0 1 b h) (part x0 2 b h)
    ((i 0).val % 2048 / 256) (ix2 ⟨(i 0).val % 2048 % 256, by omega⟩ ⟨(i 1).val % 128, by omega⟩)

theorem attnArr_at (b : Fin 16) (h : Fin 4) (i : S32768x512.Idx) (y : S2048x128.Idx)
    (h0 : (i 0).val = 2048 * b.val + (y 0).val) (h1 : (i 1).val = 128 * h.val + (y 1).val) :
    attnArr x0 x1 x2 i = outTile (gateQ x1 b h) (gateK x2 b h) (part x0 0 b h) (part x0 1 b h) (part x0 2 b h)
      ((y 0).val / 256) (ix2 ⟨(y 0).val % 256, by omega⟩ (y 1)) := by
  have y0 : (y 0).val < 2048 := (y 0).isLt
  have y1 : (y 1).val < 128 := (y 1).isLt
  have eb : (⟨(i 0).val / 2048, by omega⟩ : Fin 16) = b := Fin.ext (by show (i 0).val / 2048 = b.val; omega)
  have eh : (⟨(i 1).val / 128, by omega⟩ : Fin 4) = h := Fin.ext (by show (i 1).val / 128 = h.val; omega)
  have e0 : (i 0).val % 2048 = (y 0).val := by omega
  have e1 : (⟨(i 1).val % 128, by omega⟩ : Fin 128) = y 1 := Fin.ext (by show (i 1).val % 128 = (y 1).val; omega)
  unfold attnArr
  simp only [eb, eh, e0, e1]

end

theorem pick_lane (i : grid0.Coords) (x : FVec Ideal S2048x128 .f32) :
    k0_pay1 i x = fun y => x (ix2 (y 0) ⟨(i 1).val, by have : (i 1).val < 4 := (i 1).isLt; omega⟩) := by
  funext y
  idx_vars y
  pointwise [k0_pay1]
  have hi : (i 1).val < 4 := (i 1).isLt
  rw [Finset.sum_eq_single (⟨(i 1).val, by omega⟩ : Fin 128)]
  · show Scalar.select (IntOp.cmpi .eq (BitVec.ofNat 32 (i 1).val) (BitVec.ofNat 32 (i 1).val)) _ _ = _
    simp [IntOp.cmpi, Scalar.select]
  · intro b _ hb
    have hne : BitVec.ofNat 32 b.val ≠ BitVec.ofNat 32 (i 1).val := fun e => by
      have e' := congrArg BitVec.toNat e
      rw [BitVec.toNat_ofNat, BitVec.toNat_ofNat, Nat.mod_eq_of_lt (by omega), Nat.mod_eq_of_lt (by omega)] at e'
      exact hb (Fin.ext e')
    have hb : (BitVec.ofNat 32 b.val == BitVec.ofNat 32 (i 1).val) = false := beq_eq_false_iff_ne.2 hne
    simp [IntOp.cmpi, Scalar.select, hb]
  · exact fun h => absurd (Finset.mem_univ _) h

variable (m : (ℓ : Loc nD τ sig) → Buf (Elt Ideal) ℓ)

/-- The block each window holds at a grid point. -/
theorem idx : ∀ t : Fin cfg0.N,
    win0_0.index t = ![(grid0.coords t 0).val, (grid0.coords t 1).val] ∧ win0_1.index t = ![(grid0.coords t 0).val, 4 + (grid0.coords t 1).val] ∧
    win0_2.index t = ![(grid0.coords t 0).val, 8 + (grid0.coords t 1).val] ∧ win0_3.index t = ![(grid0.coords t 0).val, 0] ∧
    win0_4.index t = ![(grid0.coords t 0).val, 0, 0] ∧ win0_5.index t = ![(grid0.coords t 0).val, (grid0.coords t 1).val] :=
  (by decide +kernel : ∀ t : Fin grid0.N, _)

/-- The row of the gate sums the kernel loads is its head's. -/
theorem off1 : ∀ t : Fin cfg0.N, k0_off1 (grid0.coords t) = ![0, (grid0.coords t 1).val, 0] :=
  (by decide +kernel : ∀ t : Fin grid0.N, _)

/-- The array the kernel leaves. -/
theorem arr_eq (c : Dev nD) :
    (dats m 0 c).arrAt 5 cfg0.N = attnArr (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  unfold outsAt0
  rw [out_words _ _ _ _ _ _ _ _ _ _ _ _ _ _ _ _ _ _ _ _ _ _ _ rfl rfl]
  blk_simp
  obtain ⟨i0, i1, i2, i3, i4, i5⟩ := idx t
  have hb : ((grid0.coords t) 0).val < 16 := ((grid0.coords t) 0).isLt
  have hh : ((grid0.coords t) 1).val < 4 := ((grid0.coords t) 1).isLt
  rw [attnArr_at _ _ _ ⟨((grid0.coords t) 0).val, hb⟩ ⟨((grid0.coords t) 1).val, hh⟩ _ y (by blk_simp [i5]; ring) (by blk_simp [i5]; ring)]
  congr 1
  · unfold kernelRun0_A.sl.r
    rw [pick_lane]
    funext z
    unfold gateQ
    rw [Memref.IsWhole.readAt_unread]
    blk_point [iblk, V, i3]
    · show _ + (0 + 1 * (z 0).val) = _
      omega
    · show 0 + 1 * ((grid0.coords t) 1).val = _
      omega
  · unfold kernelRun0_A.sl.r_1 gateK
    funext z
    idx_vars z
    pointwise [k0_pay2]
    rw [Memref.IsWhole.readAt_unread]
    have e := off1 t
    blk_point [iblk, V, i4]
    · show k0_off1 (grid0.coords t) 1 + 1 * 0 = _
      rw [e]; rfl
    · show k0_off1 (grid0.coords t) 2 + 1 * z1.val = _
      rw [e]
      show 0 + 1 * z1.val = _
      omega
  · funext z
    unfold part
    blk_point [iblk, V, i0]
  · funext z
    unfold part
    blk_point [iblk, V, i1]
  · funext z
    unfold part
    blk_point [iblk, V, i2]

end Cert.Attn

end
-- ==== Proof.Attn.Ref.lean ====
/- The reference's result, entry by entry, for real arguments. -/
module

public import proofs.«01_k».proof.Proof.Gen.ReferenceIdeal.Read
public import proofs.«01_k».proof.Proof.Attn.Exact
public import Idealize.ShloMosaic.Lib.Pointwise

@[expose] public section

set_option maxRecDepth 16384

noncomputable section

open Idealize.ShloMosaic Idealize.ShloMosaic.TcCoe Idealize.SL.Sem

namespace Cert.Attn

/-- The base-2 logit of query `t` against key `j`. -/
def logit (X0 : Fin 32768 → Fin 1536 → ℝ) (X1 : Fin 32768 → Fin 128 → ℝ) (X2 : Fin 16 → Fin 8 → Fin 2048 → ℝ)
    (b : Fin 16) (h : Fin 4) (t j : Fin 2048) : ℝ :=
  (∑ d : Fin 128, X0 ⟨b.val * 2048 + t.val, by omega⟩ ⟨h.val * 128 + d.val, by omega⟩ *
      X0 ⟨b.val * 2048 + j.val, by omega⟩ ⟨512 + h.val * 128 + d.val, by omega⟩) +
    (X1 ⟨b.val * 2048 + t.val, by omega⟩ ⟨h.val, by omega⟩ - X2 b ⟨h.val, by omega⟩ j)

/-- The attention of real arguments. -/
def attnReal (X0 : Fin 32768 → Fin 1536 → ℝ) (X1 : Fin 32768 → Fin 128 → ℝ) (X2 : Fin 16 → Fin 8 → Fin 2048 → ℝ)
    (b : Fin 16) (h : Fin 4) (t : Fin 2048) (d : Fin 128) : ℝ :=
  mix (fun j => logit X0 X1 X2 b h t j) (fun j => X0 ⟨b.val * 2048 + j.val, by omega⟩ ⟨1024 + h.val * 128 + d.val, by omega⟩) t

section
open Cert.ReferenceIdeal Cert.ReferenceIdeal.Gen Cert.ReferenceIdeal.Read

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e]
  show (if (2 : ℝ) ≤ 0 then (⊥ : EReal) else ((Real.log 2 : ℝ) : EReal)) = _
  rw [if_neg (by norm_num)]

theorem sqrt_dim : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e]
  show (if (128 : ℝ) < 0 then (⊥ : EReal) else ((Real.sqrt 128 : ℝ) : EReal)) = _
  rw [if_neg (by norm_num)]

theorem negInf_word : Ideal.ofBits .f32 0xFF800000#32 = ⊥ := by
  simp [Ideal.ofBits, Ideal.ieee]

variable {x0 : FVec Ideal S32768x1536 .bf16} {x1 : FVec Ideal S32768x128 .f32} {x2 : FVec Ideal S16x8x2048 .f32}
  {X0 : Fin 32768 → Fin 1536 → ℝ} {X1 : Fin 32768 → Fin 128 → ℝ} {X2 : Fin 16 → Fin 8 → Fin 2048 → ℝ}

theorem q_apply (h0 : ∀ r l, x0 (ix2 r l) = (X0 r l : EReal)) (b : Fin 16) (h : Fin 4) (t : Fin 2048) (d : Fin 128) :
    val_main_v8 (F := Ideal) x0 (ix4 b t h d) =
      ((X0 ⟨b.val * 2048 + t.val, by omega⟩ ⟨h.val * 128 + d.val, by omega⟩ * (Real.log 2 * Real.sqrt 128) : ℝ) : EReal) := by
  pointwise [val_main_v8, val_main_v7, val_main_v6, val_main_v5, val_main_v4, val_main_v3, val_main_v2, val_main_v1, val_main_v0, val_main_cst, val_main_cst_0]
  rw [h0, log_two, sqrt_dim, EReal.coe_mul, EReal.coe_mul]

theorem k_apply (h0 : ∀ r l, x0 (ix2 r l) = (X0 r l : EReal)) (b : Fin 16) (h : Fin 4) (t : Fin 2048) (d : Fin 128) :
    val_main_v10 (F := Ideal) x0 (ix4 b t h d) = ((X0 ⟨b.val * 2048 + t.val, by omega⟩ ⟨512 + h.val * 128 + d.val, by omega⟩ : ℝ) : EReal) := by
  pointwise [val_main_v10, val_main_v9, val_main_v3, val_main_v2]
  rw [h0]

theorem v_apply (h0 : ∀ r l, x0 (ix2 r l) = (X0 r l : EReal)) (b : Fin 16) (h : Fin 4) (t : Fin 2048) (d : Fin 128) :
    val_main_v12 (F := Ideal) x0 (ix4 b t h d) = ((X0 ⟨b.val * 2048 + t.val, by omega⟩ ⟨1024 + h.val * 128 + d.val, by omega⟩ : ℝ) : EReal) := by
  pointwise [val_main_v12, val_main_v11, val_main_v3, val_main_v2]
  rw [h0]

theorem gq_apply (h1 : ∀ r l, x1 (ix2 r l) = (X1 r l : EReal)) (b : Fin 16) (h : Fin 4) (t : Fin 2048)  :
    val_main_v17 (F := Ideal) x1 (ix3 b h t) = ((X1 ⟨b.val * 2048 + t.val, by omega⟩ ⟨h.val, by omega⟩ * Real.log 2 : ℝ) : EReal) := by
  pointwise [val_main_v17, val_main_v16, val_main_v15, val_main_v14, val_main_v13, val_main_v0, val_main_cst]
  rw [h1, log_two, EReal.coe_mul]

theorem gk_apply (h2 : ∀ b r l, x2 (ix3 b r l) = (X2 b r l : EReal)) (b : Fin 16) (h : Fin 4) (t : Fin 2048)  :
    val_main_v20 (F := Ideal) x2 (ix3 b h t) = ((X2 b ⟨h.val, by omega⟩ t * Real.log 2 : ℝ) : EReal) := by
  pointwise [val_main_v20, val_main_v19, val_main_v18, val_main_v0, val_main_cst]
  rw [h2, log_two, EReal.coe_mul]

theorem causal_apply (t j : Fin 2048) : val_main_v35 (F := Ideal) (ix2 t j) = 1#1 ↔ j.val ≤ t.val := by
  pointwise [val_main_v35, val_main_v34, val_main_v33, val_main_v32, val_main_v31, val_main_v30, val_main_v29]
  have ea : (BitVec.ofNat 32 t.val).toInt = t.val := by
    rw [BitVec.toInt_ofNat', Int.bmod_eq_of_le] <;> omega
  have eb : (BitVec.ofNat 32 j.val).toInt = j.val := by
    rw [BitVec.toInt_ofNat', Int.bmod_eq_of_le] <;> omega
  by_cases h : j ≤ t <;> simp [IntOp.cmpi, BitVec.sle, ea, eb, h]

/-- The reference's logits: `log 2` times the base-2 logits. -/
theorem l_apply (h0 : ∀ r l, x0 (ix2 r l) = (X0 r l : EReal)) (h1 : ∀ r l, x1 (ix2 r l) = (X1 r l : EReal))
    (h2 : ∀ b r l, x2 (ix3 b r l) = (X2 b r l : EReal)) (b : Fin 16) (h : Fin 4) (t j : Fin 2048) :
    val_main_v37 (F := Ideal) x0 x1 x2 (ix4 b h t j) =
      if j.val ≤ t.val then ((Real.log 2 * logit X0 X1 X2 b h t j : ℝ) : EReal) else ⊥ := by
  pointwise [val_main_v37, val_main_v36, val_main_call0_v2, val_main_call0_v1, val_main_call0_v0, val_main_cst_1,
    val_main_v23, val_main_v22, val_main_v21, val_main_v28, val_main_v27, val_main_v26, val_main_v25, val_main_v24]
  by_cases hj : j.val ≤ t.val
  · rw [if_pos hj, (causal_apply t j).2 hj]
    simp only [q_apply h0, k_apply h0, gq_apply h1, gk_apply h2]
    have er : val_main_v1 (F := Ideal) ix0 = ((Real.sqrt 128 : ℝ) : EReal) := sqrt_dim
    have hs : Real.sqrt 128 ≠ 0 := by positivity
    rw [er]
    simp only [← EReal.coe_mul, ← coe_sum, coe_div hs, ← EReal.coe_sub]
    show ((_ : ℝ) : EReal) + ((_ : ℝ) : EReal) = _
    rw [← EReal.coe_add, EReal.coe_eq_coe_iff, logit, mul_add, mul_sub, Finset.sum_div, Finset.mul_sum]
    congr 1
    · refine Finset.sum_congr rfl fun d _ => ?_
      field_simp
    · ring
  · have e : val_main_v35 (F := Ideal) (ix2 t j) = 0#1 := by
      have hne : val_main_v35 (F := Ideal) (ix2 t j) ≠ 1#1 := fun e => hj ((causal_apply t j).1 e)
      generalize val_main_v35 (F := Ideal) (ix2 t j) = z at hne
      revert hne; revert z; decide
    rw [if_neg hj, e]
    exact negInf_word

theorem fold_apply (b : Fin 16) (h : Fin 4) (t : Fin 2048) : val_main_v38 (F := Ideal) x0 x1 x2 (ix3 b h t) =
    Finset.univ.fold max (Ideal.ofBits .f32 0xFF800000#32) fun j : Fin 2048 => val_main_v37 (F := Ideal) x0 x1 x2 (ix4 b h t j) := by
  pointwise [val_main_v38, val_main_cst_2]

theorem max_apply (b : Fin 16) (h : Fin 4) (t : Fin 2048) : val_main_v40 (F := Ideal) x0 x1 x2 (ix3 b h t) =
    max (Ideal.ofBits .f32 0xFF800000#32) (val_main_v38 (F := Ideal) x0 x1 x2 (ix3 b h t)) := by
  rw [val_main_v40_apply]
  generalize val_main_v38 (F := Ideal) x0 x1 x2 (ix3 b h t) = y
  pointwise [val_main_v39, val_main_cst_3]

/-- The reference's shift is a real number. -/
theorem m_real (h0 : ∀ r l, x0 (ix2 r l) = (X0 r l : EReal)) (h1 : ∀ r l, x1 (ix2 r l) = (X1 r l : EReal))
    (h2 : ∀ b r l, x2 (ix3 b r l) = (X2 b r l : EReal)) (b : Fin 16) (h : Fin 4) (t : Fin 2048) :
    ∃ r : ℝ, val_main_v40 (F := Ideal) x0 x1 x2 (ix3 b h t) = (r : EReal) := by
  have e : val_main_v40 (F := Ideal) x0 x1 x2 (ix3 b h t) =
      max ⊥ (Finset.univ.fold max ⊥ fun j : Fin 2048 => val_main_v37 (F := Ideal) x0 x1 x2 (ix4 b h t j)) := by
    rw [max_apply, fold_apply, negInf_word]
  simp only [l_apply h0 h1 h2] at e
  refine ⟨_, (EReal.coe_toReal (ne_of_lt ?_) (ne_of_gt ?_)).symm⟩
  · rw [e]
    refine max_lt bot_lt_top ((Finset.fold_max_lt _).2 ⟨bot_lt_top, fun j _ => ?_⟩)
    split_ifs
    · exact EReal.coe_lt_top _
    · exact bot_lt_top
  · rw [e]
    refine lt_max_of_lt_right ((Finset.lt_fold_max _).2 (.inr ⟨t, Finset.mem_univ _, ?_⟩))
    simp only [le_refl, if_true]
    exact EReal.bot_lt_coe _

theorem w_apply (h0 : ∀ r l, x0 (ix2 r l) = (X0 r l : EReal)) (h1 : ∀ r l, x1 (ix2 r l) = (X1 r l : EReal))
    (h2 : ∀ b r l, x2 (ix3 b r l) = (X2 b r l : EReal)) (b : Fin 16) (h : Fin 4) (t : Fin 2048) :
    ∃ r : ℝ, ∀ j, val_main_v44 (F := Ideal) x0 x1 x2 (ix4 b h t j) =
      ((wts (Real.exp (-r)) (fun j => logit X0 X1 X2 b h t j) t j : ℝ) : EReal) := by
  obtain ⟨s, hs⟩ := m_real h0 h1 h2 b h t
  refine ⟨s, fun j => ?_⟩
  have e : val_main_v44 (F := Ideal) x0 x1 x2 (ix4 b h t j) =
      Ideal.exp (val_main_v37 (F := Ideal) x0 x1 x2 (ix4 b h t j) - val_main_v40 (F := Ideal) x0 x1 x2 (ix3 b h t)) := by
    pointwise [val_main_v44, val_main_v43, val_main_v42, val_main_v41]
  rw [e, l_apply h0 h1 h2, hs]
  exact exp_wts (fun j => logit X0 X1 X2 b h t j) t j s

theorem row_apply (h0 : ∀ r l, x0 (ix2 r l) = (X0 r l : EReal)) (h1 : ∀ r l, x1 (ix2 r l) = (X1 r l : EReal))
    (h2 : ∀ b r l, x2 (ix3 b r l) = (X2 b r l : EReal)) (b : Fin 16) (h : Fin 4) (t : Fin 2048) (d : Fin 128) :
    val_main_v49 (F := Ideal) x0 x1 x2 (ix4 b h d t) = ((attnReal X0 X1 X2 b h t d : ℝ) : EReal) := by
  obtain ⟨s, hs⟩ := w_apply h0 h1 h2 b h t
  have e := mean_early (fun j => val_main_v44 (F := Ideal) x0 x1 x2 (ix4 b h t j))
    (fun j => val_main_v12 (F := Ideal) x0 (ix4 b j h d)) (Real.exp (-s)) (Real.exp_pos _)
    (fun j => logit X0 X1 X2 b h t j) _ t hs (fun j => v_apply h0 b h j d)
  rw [attnReal, ← e]
  pointwise [val_main_v49, val_main_v48, val_main_v47, val_main_v46, val_main_v45, val_main_cst_4]

/-- The reference's result. -/
theorem ref_out (h0 : ∀ r l, x0 (ix2 r l) = (X0 r l : EReal)) (h1 : ∀ r l, x1 (ix2 r l) = (X1 r l : EReal))
    (h2 : ∀ b r l, x2 (ix3 b r l) = (X2 b r l : EReal)) (r : Fin 32768) (c : Fin 512) :
    val_main_v52 (F := Ideal) x0 x1 x2 (ix2 r c) =
      ((attnReal X0 X1 X2 ⟨r.val / 2048, by omega⟩ ⟨c.val / 128, by omega⟩ ⟨r.val % 2048, by omega⟩ ⟨c.val % 128, by omega⟩ : ℝ) : EReal) := by
  rw [← row_apply h0 h1 h2]
  pointwise [val_main_v52, val_main_v51, val_main_v50]

end

end Cert.Attn

end
-- ==== Proof.Attn.Same.lean ====
/- The kernel's attention and the reference's, of real arguments, are one array. -/
module

public import proofs.«01_k».proof.Proof.Attn.Kern
public import proofs.«01_k».proof.Proof.Attn.Ref

@[expose] public section

set_option maxRecDepth 16384

noncomputable section

open Idealize.ShloMosaic Idealize.ShloMosaic.TcCoe Idealize.SL.Sem
open Idealize.ShloMosaic.Pipeline (Dat)

noncomputable section

open Idealize.ShloMosaic Idealize.ShloMosaic.TcCoe Idealize.SL.Sem

namespace Cert.Attn

open Cert.KernelIdeal

section
variable {x0 : FVec Ideal S32768x1536 .bf16} {x1 : FVec Ideal S32768x128 .f32} {x2 : FVec Ideal S16x8x2048 .f32}
  {X0 : Fin 32768 → Fin 1536 → ℝ} {X1 : Fin 32768 → Fin 128 → ℝ} {X2 : Fin 16 → Fin 8 → Fin 2048 → ℝ}

theorem part_real (h0 : ∀ r l, x0 (ix2 r l) = (X0 r l : EReal)) (p : Fin 3) (b : Fin 16) (h : Fin 4) (t : Fin 2048) (d : Fin 128)
    (l : Fin 1536) (hl : l.val = 512 * p.val + h.val * 128 + d.val) :
    part x0 p b h (ix2 t d) = (X0 ⟨b.val * 2048 + t.val, by omega⟩ l : EReal) := by
  have el : l = ⟨128 * (4 * p.val + h.val) + d.val, by omega⟩ := Fin.ext (by show l.val = 128 * (4 * p.val + h.val) + d.val; omega)
  have er : (⟨b.val * 2048 + t.val, by omega⟩ : Fin 32768) = ⟨2048 * b.val + t.val, by omega⟩ :=
    Fin.ext (by show b.val * 2048 + t.val = 2048 * b.val + t.val; omega)
  rw [el, er, ← h0]
  rfl

theorem gateQ_real (h1 : ∀ r l, x1 (ix2 r l) = (X1 r l : EReal)) (b : Fin 16) (h : Fin 4) (t : Fin 2048) :
    gateQ x1 b h (ix2 t 0) = (X1 ⟨b.val * 2048 + t.val, by omega⟩ ⟨h.val, by omega⟩ : EReal) := by
  have er : (⟨b.val * 2048 + t.val, by omega⟩ : Fin 32768) = ⟨2048 * b.val + t.val, by omega⟩ :=
    Fin.ext (by show b.val * 2048 + t.val = 2048 * b.val + t.val; omega)
  rw [er, ← h1]
  rfl

theorem gateK_real (h2 : ∀ b r l, x2 (ix3 b r l) = (X2 b r l : EReal)) (b : Fin 16) (h : Fin 4) (t : Fin 2048) :
    gateK x2 b h (ix2 0 t) = (X2 b ⟨h.val, by omega⟩ t : EReal) := by
  rw [← h2]
  rfl

theorem score_real (h0 : ∀ r l, x0 (ix2 r l) = (X0 r l : EReal)) (h1 : ∀ r l, x1 (ix2 r l) = (X1 r l : EReal))
    (h2 : ∀ b r l, x2 (ix3 b r l) = (X2 b r l : EReal)) (b : Fin 16) (h : Fin 4) (t j : Fin 2048) :
    score (gateQ x1 b h) (gateK x2 b h) (part x0 0 b h) (part x0 1 b h) t j =
      if j.val ≤ t.val then ((logit X0 X1 X2 b h t j : ℝ) : EReal) else ⊥ := by
  unfold score
  by_cases hj : j.val ≤ t.val
  · have eq : ∀ d, part x0 0 b h (ix2 t d) = _ := fun d => part_real h0 0 b h t d ⟨h.val * 128 + d.val, by omega⟩ (by show h.val * 128 + d.val = 512 * 0 + h.val * 128 + d.val; omega)
    have ek : ∀ d, part x0 1 b h (ix2 j d) = _ := fun d => part_real h0 1 b h j d ⟨512 + h.val * 128 + d.val, by omega⟩ (by show 512 + h.val * 128 + d.val = 512 * 1 + h.val * 128 + d.val; omega)
    rw [if_pos hj, if_pos hj, gateQ_real h1, gateK_real h2]
    simp only [eq, ek, ← EReal.coe_mul, ← coe_sum, ← EReal.coe_sub, ← EReal.coe_add]
    rfl
  · rw [if_neg hj, if_neg hj]

theorem weight_real (h0 : ∀ r l, x0 (ix2 r l) = (X0 r l : EReal)) (h1 : ∀ r l, x1 (ix2 r l) = (X1 r l : EReal))
    (h2 : ∀ b r l, x2 (ix3 b r l) = (X2 b r l : EReal)) (b : Fin 16) (h : Fin 4) (t : Fin 2048) :
    ∃ r : ℝ, ∀ j, weight (gateQ x1 b h) (gateK x2 b h) (part x0 0 b h) (part x0 1 b h) t j =
      ((wts ((2 : ℝ) ^ (-r)) (fun j => logit X0 X1 X2 b h t j) t j : ℝ) : EReal) := by
  obtain ⟨s, hs⟩ := shift_real (gateQ x1 b h) (gateK x2 b h) (part x0 0 b h) (part x0 1 b h) t
    (fun j => by
      rw [score_real h0 h1 h2]
      split_ifs
      · exact EReal.coe_lt_top _
      · exact bot_lt_top)
    (by
      rw [score_real h0 h1 h2, if_pos (show (0 : Fin 2048).val ≤ t.val from Nat.zero_le _)]
      exact EReal.bot_lt_coe _)
  refine ⟨s, fun j => ?_⟩
  unfold weight
  rw [score_real h0 h1 h2, hs]
  exact exp2_wts (fun j => logit X0 X1 X2 b h t j) t j s

/-- The kernel's result. -/
theorem kern_out (h0 : ∀ r l, x0 (ix2 r l) = (X0 r l : EReal)) (h1 : ∀ r l, x1 (ix2 r l) = (X1 r l : EReal))
    (h2 : ∀ b r l, x2 (ix3 b r l) = (X2 b r l : EReal)) (r : Fin 32768) (c : Fin 512) :
    attnArr x0 x1 x2 (ix2 r c) =
      ((attnReal X0 X1 X2 ⟨r.val / 2048, by omega⟩ ⟨c.val / 128, by omega⟩ ⟨r.val % 2048, by omega⟩ ⟨c.val % 128, by omega⟩ : ℝ) : EReal) := by
  rw [attnArr_at x0 x1 x2 ⟨r.val / 2048, by omega⟩ ⟨c.val / 128, by omega⟩ (ix2 r c)
    (ix2 ⟨r.val % 2048, by omega⟩ ⟨c.val % 128, by omega⟩)
    (by show r.val = 2048 * (r.val / 2048) + r.val % 2048; omega) (by show c.val = 128 * (c.val / 128) + c.val % 128; omega)]
  generalize (⟨r.val / 2048, by omega⟩ : Fin 16) = b
  generalize (⟨c.val / 128, by omega⟩ : Fin 4) = h
  generalize (⟨r.val % 2048, by omega⟩ : Fin 2048) = t
  generalize (⟨c.val % 128, by omega⟩ : Fin 128) = d
  obtain ⟨s, hs⟩ := weight_real h0 h1 h2 b h t
  refine (outTile_apply (gateQ x1 b h) (gateK x2 b h) (part x0 0 b h) (part x0 1 b h) (part x0 2 b h) t d).trans ?_
  exact mean_late (fun j => weight (gateQ x1 b h) (gateK x2 b h) (part x0 0 b h) (part x0 1 b h) t j)
    (fun j => part x0 2 b h (ix2 j d)) ((2 : ℝ) ^ (-s)) (Real.rpow_pos_of_pos (by norm_num) _)
    (fun j => logit X0 X1 X2 b h t j) _ t hs
    (fun j => part_real h0 2 b h j d ⟨1024 + h.val * 128 + d.val, by omega⟩ (by show 1024 + h.val * 128 + d.val = 512 * 2 + h.val * 128 + d.val; omega))

/-- The two results are one array when the arguments are real numbers. -/
theorem same (h0 : ∀ r l, x0 (ix2 r l) = (X0 r l : EReal)) (h1 : ∀ r l, x1 (ix2 r l) = (X1 r l : EReal))
    (h2 : ∀ b r l, x2 (ix3 b r l) = (X2 b r l : EReal)) :
    Cert.ReferenceIdeal.Read.val_main_v52 (F := Ideal) x0 x1 x2 = attnArr x0 x1 x2 := by
  funext i
  idx_vars i
  exact (ref_out h0 h1 h2 _ _).trans (kern_out h0 h1 h2 _ _).symm

end

end Cert.Attn

end
-- ==== Proof.Load.lean ====
/- Loads from whole buffers. -/
module

public import Idealize.ShloMosaic.PureOps.Ideal
public import Idealize.ShloMosaic.Lib.WholeRead

@[expose] public section

noncomputable section

namespace Cert

open Idealize.ShloMosaic Idealize.ShloMosaic.TcCoe Idealize.SL.Sem

/-- A load from a whole buffer reads its contents. -/
theorem load_eq {sig : RefSig} {s : Shape} {e : EltTy} {mr : Memref sig .tc .vmem s e} (h : mr.IsWhole) (X : s.Idx → Elt Ideal e) (r : Rect s) :
    View.readAt (Elt Ideal) mr.view r.toLoadRect (h.unread X) = View.ld X r := funext fun x => h.readAt_unread X _ x

theorem load_all2 {p q : ℕ} {e : EltTy} (X : (⟨2, ![p, q]⟩ : Shape).Idx → Elt Ideal e) (inb) :
    View.ld X (Rect.unit (s := ⟨2, ![p, q]⟩) ![0, 0] ![p, q] inb) = X :=
  View.ld_unit_zero (by funext a; fin_cases a <;> rfl) inb X

theorem load_all3 {p q r : ℕ} {e : EltTy} (X : (⟨3, ![p, q, r]⟩ : Shape).Idx → Elt Ideal e) (inb) :
    View.ld X (Rect.unit (s := ⟨3, ![p, q, r]⟩) ![0, 0, 0] ![p, q, r] inb) = X :=
  View.ld_unit_zero (by funext a; fin_cases a <;> rfl) inb X

end Cert

end

end
-- ==== Proof.Inv.lean ====
module

public import Idealize.ShloMosaic.PureOps.Ideal
public import Idealize.ShloMosaic.Lib.Pointwise

@[expose] public section

noncomputable section

namespace Cert

open Idealize.ShloMosaic

/-- One over the root mean square of a row of 2048 values, with the small constant added to the mean. -/
def inv (v : Fin 2048 → EReal) : EReal :=
  Ideal.rsqrt (Ideal.div (∑ j, v j * v j) (Ideal.ofBits .f32 0x45000000#32) + Ideal.ofBits .f32 0x358637BD#32)

end Cert

end

end
-- ==== Proof.Mlp.Tile.lean ====
/- What one grid point of the feed-forward kernel leaves in its blocks. -/
module

public import proofs.«01_k».proof.Proof.Inv
public import proofs.«01_k».proof.Proof.Gen.Kernel2Ideal.Frame
public import Idealize.ShloMosaic.Lib.Pipeline.ValueKit
public import Idealize.ShloMosaic.Lib.Pointwise

@[expose] public section

noncomputable section

namespace Cert.Mlp

open Idealize.ShloMosaic Idealize.ShloMosaic.TcCoe Idealize.SL.Sem
open Cert.Kernel2Ideal Cert.Kernel2Ideal.Gen

/-- The squared positive part. -/
def act (u : EReal) : EReal := max u 0 * max u 0

/-- An entry of the new stream: `w` the old entry, `g` the gain, `ρ` the row's inverse root mean square, `u` the row's unscaled product. -/
def rowT (w g ρ : EReal) (u : Fin 2048 → EReal) (c : Fin 2048) : EReal :=
  w + u c * (ρ * ρ * Ideal.rsqrt (ρ * ρ * (ρ * ρ) * Ideal.div (∑ j, u j * u j) (Ideal.ofBits .f32 0x45000000#32) + Ideal.ofBits .f32 0x358637BD#32)) * g

section
variable (x0 : FVec Ideal S512x2048 .f32) (x1 : FVec Ideal S512x2048 .bf16) (x2 : FVec Ideal S512x128 .f32) (x3 : FVec Ideal S1x2048x1024 .bf16)
  (x4 : FVec Ideal S1x1024x2048 .bf16) (x5 : FVec Ideal S1x2048 .f32)

/-- A block's hidden values: the squared positive parts of the rows' products with the chunk's columns. -/
def hidT (a : Fin 512) (f : Fin 1024) : EReal := act (∑ d : Fin 2048, x1 (ix2 a d) * x3 (ix3 0 d f))

/-- A chunk's share of the block's product. -/
def partT (a : Fin 512) (c : Fin 2048) : EReal := ∑ f : Fin 1024, hidT x1 x3 a f * x4 (ix3 0 f c)

/-- The block's new stream, from its accumulated product `y` and its rows' scales `R`. -/
def newT (R : Fin 512 → EReal) (y : Fin 512 → Fin 2048 → EReal) (a : Fin 512) (c : Fin 2048) : EReal :=
  rowT (x0 (ix2 a c)) (x5 (ix2 0 c)) (R a) (y a) c

theorem pay4_apply (a : Fin 512) (f : Fin 1024) : k0_pay4 (F := Ideal) x1 x3 (ix2 a f) = hidT x1 x3 a f := by
  have e : k0_pay4 (F := Ideal) x1 x3 (ix2 a f) = act (matmul (F := Ideal) dot_S512x2048_S2048x1024_S512x1024_1_0_0_1_n_n none
      (shapeCast S512x2048 x1 shapeCasts_S512x2048_S512x2048) (shapeCast S2048x1024 x3 shapeCasts_S1x2048x1024_S2048x1024) (constant S512x1024 .f32 0x00000000#32) (ix2 a f)) := by
    unfold act
    rw [show (0 : EReal) = Ideal.ofBits .f32 0x00000000#32 by simp [Ideal.ofBits, Ideal.ieee]]
    rfl
  rw [e]
  unfold hidT
  congr 1
  pointwise []

theorem pay1_eq : k0_pay1 (F := Ideal) x1 x3 x4 = matmul (F := Ideal) dot_S512x1024_S1024x2048_S512x2048_1_0_0_1_n_n none (k0_pay4 (F := Ideal) x1 x3)
    (shapeCast S1024x2048 x4 shapeCasts_S1x1024x2048_S1024x2048) (constant S512x2048 .f32 0x00000000#32) := rfl

theorem pay1_apply (a : Fin 512) (c : Fin 2048) : k0_pay1 (F := Ideal) x1 x3 x4 (ix2 a c) = partT x1 x3 x4 a c := by
  rw [pay1_eq]
  unfold partT
  pointwise []
  simp only [pay4_apply]

theorem pay2_eq : k0_pay2 (F := Ideal) x0 x1 x3 x4 = addf (F := Ideal) (shapeCast S512x2048 x0 shapeCasts_S512x2048_S512x2048) (k0_pay1 (F := Ideal) x1 x3 x4) := rfl

theorem pay2_apply (a : Fin 512) (c : Fin 2048) : k0_pay2 (F := Ideal) x0 x1 x3 x4 (ix2 a c) = x0 (ix2 a c) + partT x1 x3 x4 a c := by
  rw [pay2_eq]
  pointwise []
  rw [pay1_apply]

/-- A part's rows normalised, scaled and added to the stream: `u` the rows' products, `ρ` their inverse root mean squares. -/
def normT (w : FVec Ideal S128x2048 .f32) (g : FVec Ideal S1x2048 .f32) (ρ : Fin 128 → EReal) (u : Fin 128 → Fin 2048 → EReal) (a : Fin 128) (c : Fin 2048) : EReal :=
  rowT (w (ix2 a c)) (g (ix2 0 c)) (ρ a) (u a) c

end

section
variable (v : FVec Ideal S128x2048 .f32) (s : FVec Ideal S128x128 .f32) (w : FVec Ideal S128x2048 .f32) (g : FVec Ideal S1x2048 .f32)
  (p : FVec Ideal S512x2048 .bf16) (q : FVec Ideal S1x2048x1024 .bf16) (y : FVec Ideal S128x2048 .f32) (b : FVec Ideal S1x1024x2048 .bf16)
  (ρ : Fin 128 → EReal)

theorem pay20_apply (hs : ∀ a l, s (ix2 a l) = ρ a) (a : Fin 128) (c : Fin 2048) :
    k0_pay20 (F := Ideal) v s s w g (ix2 a c) = normT w g ρ (fun a c => v (ix2 a c)) a c := by
  obtain rfl : s = fun i => ρ (i 0) := funext fun i => by rw [← hs (i 0) (i 1)]; exact congrArg s (ix2_eta i).symm
  pointwise [k0_pay20]
  simp only [dite_eq_ite, ite_self]
  rfl

theorem pay17_apply (hs : ∀ a l, s (ix2 a l) = ρ a) (a : Fin 128) (c : Fin 2048) :
    k0_pay17 (F := Ideal) v s s w g (ix2 a c) = normT w g ρ (fun a c => v (ix2 a c)) a c := by
  obtain rfl : s = fun i => ρ (i 0) := funext fun i => by rw [← hs (i 0) (i 1)]; exact congrArg s (ix2_eta i).symm
  pointwise [k0_pay17]
  simp only [dite_eq_ite, ite_self]
  rfl

theorem pay13_apply (hs : ∀ a l, s (ix2 a l) = ρ a) (a : Fin 128) (c : Fin 2048) :
    k0_pay13 (F := Ideal) v s s w g (ix2 a c) = normT w g ρ (fun a c => v (ix2 a c)) a c := by
  obtain rfl : s = fun i => ρ (i 0) := funext fun i => by rw [← hs (i 0) (i 1)]; exact congrArg s (ix2_eta i).symm
  pointwise [k0_pay13]
  simp only [dite_eq_ite, ite_self]
  rfl

theorem pay9_apply (hs : ∀ a l, s (ix2 a l) = ρ a) (a : Fin 128) (c : Fin 2048) :
    k0_pay9 (F := Ideal) (k0_pay5 (F := Ideal) p q y b) (k0_pay7 (F := Ideal) s s) (k0_pay8 (F := Ideal) p q y b) w g (ix2 a c) = normT w g ρ (fun a c => k0_pay5 (F := Ideal) p q y b (ix2 a c)) a c := by
  obtain rfl : s = fun i => ρ (i 0) := funext fun i => by rw [← hs (i 0) (i 1)]; exact congrArg s (ix2_eta i).symm
  pointwise [k0_pay9, k0_pay7, k0_pay8]
  simp only [dite_eq_ite, ite_self]
  rfl

theorem pay5_apply (a : Fin 128) (c : Fin 2048) :
    k0_pay5 (F := Ideal) p q y b (ix2 a c) = y (ix2 a c) + partT p q b ⟨0 + a.val, by omega⟩ c := by
  pointwise [k0_pay5]
  simp only [pay4_apply, Nat.zero_add]
  rfl

theorem pay6_apply (a : Fin 128) (c : Fin 2048) :
    k0_pay6 (F := Ideal) p q y b (ix2 a c) = y (ix2 a c) + partT p q b ⟨128 + a.val, by omega⟩ c := by
  pointwise [k0_pay6]
  simp only [pay4_apply]
  rfl

theorem pay12_apply (a : Fin 128) (c : Fin 2048) :
    k0_pay12 (F := Ideal) (k0_pay4 (F := Ideal) p q) y b (ix2 a c) = y (ix2 a c) + partT p q b ⟨256 + a.val, by omega⟩ c := by
  pointwise [k0_pay12]
  simp only [pay4_apply]
  rfl

theorem pay16_apply (a : Fin 128) (c : Fin 2048) :
    k0_pay16 (F := Ideal) (k0_pay4 (F := Ideal) p q) y b (ix2 a c) = y (ix2 a c) + partT p q b ⟨384 + a.val, by omega⟩ c := by
  pointwise [k0_pay16]
  simp only [pay4_apply]
  rfl

/-- A load of some whole rows. -/
theorem ld_rows {n : ℕ} {e : EltTy} (X : (⟨2, ![512, n]⟩ : Shape).Idx → Elt Ideal e) (o : ℕ) (inb) (ho : o ≤ 384) (a : Fin 128) (c : Fin n) :
    View.ld X (Rect.unit (s := ⟨2, ![512, n]⟩) ![o, 0] ![128, n] inb) (ix2 a c) = X (ix2 ⟨o + a.val, by omega⟩ c) :=
  View.ld_unit_apply_of X _ _ inb _ _ fun x => by
    fin_cases x
    · rfl
    · exact (Nat.zero_add _).symm

/-- A part's rows of the new stream are the block's. -/
theorem normT_rows (x0 : FVec Ideal S512x2048 .f32) (x5 : FVec Ideal S1x2048 .f32) (R : Fin 512 → EReal) (xo : FVec Ideal S512x2048 .f32)
    (P : Fin 512 → Fin 2048 → EReal) (o : ℕ) (inb inb') (ho : o ≤ 384) (a : Fin 128) (c : Fin 2048) :
    normT (View.ld (Val := Elt Ideal) (e' := .f32) x0 (Rect.unit (s := S512x2048) ![o, 0] ![128, 2048] inb)) x5 (fun a => R ⟨o + a.val, by omega⟩)
        (fun a c => View.ld (Val := Elt Ideal) (e' := .f32) xo (Rect.unit (s := S512x2048) ![o, 0] ![128, 2048] inb') (ix2 a c) + P ⟨o + a.val, by omega⟩ c) a c =
      newT x0 x5 R (fun a c => xo (ix2 a c) + P a c) ((Rect.unit (s := S512x2048) ![o, 0] ![128, 2048] inb).emb (ix2 a c) 0)
        ((Rect.unit (s := S512x2048) ![o, 0] ![128, 2048] inb).emb (ix2 a c) 1) := by
  have e0 : (Rect.unit (s := S512x2048) ![o, 0] ![128, 2048] inb).emb (ix2 a c) 0 = (⟨o + a.val, by omega⟩ : Fin 512) := Fin.ext (show o + 1 * a.val = o + a.val by omega)
  have e1 : (Rect.unit (s := S512x2048) ![o, 0] ![128, 2048] inb).emb (ix2 a c) 1 = (c : Fin 2048) := Fin.ext (show 0 + 1 * c.val = c.val by omega)
  refine Eq.trans ?_ (congrArg₂ (newT x0 x5 R (fun a c => xo (ix2 a c) + P a c)) e0 e1).symm
  exact congrArg₂ (fun w u => rowT w (x5 (ix2 0 c)) (R ⟨o + a.val, by omega⟩) u c) (ld_rows (e := .f32) x0 o inb ho a c)
    (funext fun k => congrArg (· + P ⟨o + a.val, by omega⟩ k) (ld_rows (e := .f32) xo o inb' ho a k))

/-- … and so is what is normalised next. -/
theorem inv_rows (x0 : FVec Ideal S512x2048 .f32) (x5 : FVec Ideal S1x2048 .f32) (R : Fin 512 → EReal) (xo : FVec Ideal S512x2048 .f32)
    (P : Fin 512 → Fin 2048 → EReal) (o : ℕ) (inb inb' inb'') (ho : o ≤ 384) (a : Fin 128) (l : Fin 128) :
    inv (normT (View.ld (Val := Elt Ideal) (e' := .f32) x0 (Rect.unit (s := S512x2048) ![o, 0] ![128, 2048] inb)) x5 (fun a => R ⟨o + a.val, by omega⟩)
        (fun a c => View.ld (Val := Elt Ideal) (e' := .f32) xo (Rect.unit (s := S512x2048) ![o, 0] ![128, 2048] inb') (ix2 a c) + P ⟨o + a.val, by omega⟩ c) a) =
      inv (newT x0 x5 R (fun a c => xo (ix2 a c) + P a c) ((Rect.unit (s := S512x128) ![o, 0] ![128, 128] inb'').emb (ix2 a l) 0)) := by
  have e0 : (Rect.unit (s := S512x128) ![o, 0] ![128, 128] inb'').emb (ix2 a l) 0 = (⟨o + a.val, by omega⟩ : Fin 512) := Fin.ext (show o + 1 * a.val = o + a.val by omega)
  refine Eq.trans ?_ (congrArg (fun a => inv (newT x0 x5 R (fun a c => xo (ix2 a c) + P a c) a)) e0).symm
  refine congrArg inv (funext fun c => ?_)
  exact congrArg₂ (fun w u => rowT w (x5 (ix2 0 c)) (R ⟨o + a.val, by omega⟩) u c) (ld_rows (e := .f32) x0 o inb ho a c)
    (funext fun k => congrArg (· + P ⟨o + a.val, by omega⟩ k) (ld_rows (e := .f32) xo o inb' ho a k))

end

section
variable (v : FVec Ideal S128x2048 .f32) (s s' : FVec Ideal S128x128 .f32) (w : FVec Ideal S128x2048 .f32) (g : FVec Ideal S1x2048 .f32)

theorem pay21_eq : k0_pay21 (F := Ideal) v s s' w g = k0_pay20 (F := Ideal) v s s' w g := rfl
theorem pay18_eq : k0_pay18 (F := Ideal) v s s' w g = k0_pay17 (F := Ideal) v s s' w g := rfl
theorem pay14_eq : k0_pay14 (F := Ideal) v s s' w g = k0_pay13 (F := Ideal) v s s' w g := rfl
theorem pay10_eq : k0_pay10 (F := Ideal) v s s' w g = k0_pay9 (F := Ideal) v s s' w g := rfl
theorem pay19_eq : k0_pay19 (F := Ideal) v = k0_pay3 (F := Ideal) v := rfl
theorem pay15_eq : k0_pay15 (F := Ideal) v s s' w g = k0_pay3 (F := Ideal) (k0_pay13 (F := Ideal) v s s' w g) := rfl
theorem pay11_eq : k0_pay11 (F := Ideal) v s s' w g = k0_pay3 (F := Ideal) (k0_pay9 (F := Ideal) v s s' w g) := rfl

theorem pay3_apply (a l : Fin 128) : k0_pay3 (F := Ideal) v (ix2 a l) = inv (fun c => v (ix2 a c)) := by
  pointwise [k0_pay3]
  rfl

end

end Cert.Mlp

end

end
-- ==== Proof.Mlp.Scale.lean ====
/- A row's scale taken out of the feed-forward products. -/
module

public import proofs.«01_k».proof.Proof.Mlp.Tile

@[expose] public section

noncomputable section

namespace Cert.Mlp

open Idealize.ShloMosaic

theorem sq_nonneg (x : EReal) : 0 ≤ x * x := by
  rcases le_total 0 x with h | h
  · exact mul_nonneg h h
  · have h' : 0 ≤ -x := by rwa [EReal.neg_nonneg]
    have e := mul_nonneg h' h'
    rwa [EReal.neg_mul, mul_comm, EReal.neg_mul, neg_neg] at e

theorem len_eq : Ideal.ofBits .f32 0x45000000#32 = ((2048 : ℝ) : EReal) := by
  simp [Ideal.ofBits, Ideal.ieee, -EReal.coe_mul]; norm_num

theorem eps_pos : 0 < Ideal.ofBits .f32 0x358637BD#32 := by
  simp [Ideal.ofBits, Ideal.ieee, -EReal.coe_mul]

/-- The mean square is not negative. -/
theorem mean_nonneg (v : Fin 2048 → EReal) : 0 ≤ Ideal.div (∑ j, v j * v j) (Ideal.ofBits .f32 0x45000000#32) := by
  rw [len_eq, Ideal.div_coe (by norm_num)]
  exact mul_nonneg (Finset.sum_nonneg fun j _ => sq_nonneg _) (by exact_mod_cast (by norm_num : (0 : ℝ) ≤ 1 / 2048))

theorem rsqrt_pos (x : EReal) (h : 0 < x) : 0 ≤ Ideal.rsqrt x ∧ Ideal.rsqrt x ≠ ⊤ := by
  induction x using EReal.rec with
  | bot => exact absurd h (by simp)
  | top => simp
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

/-- A row's inverse root mean square is a real number, and not negative. -/
theorem inv_real (v : Fin 2048 → EReal) : 0 ≤ inv v ∧ inv v ≠ ⊤ :=
  rsqrt_pos _ (lt_of_lt_of_le eps_pos (le_add_of_nonneg_left (mean_nonneg v)))

variable {ρ : EReal} (h0 : 0 ≤ ρ) (h1 : ρ ≠ ⊤)
include h0 h1

theorem scale_sum {ι : Type*} (s : Finset ι) (f : ι → EReal) : ∑ i ∈ s, ρ * f i = ρ * ∑ i ∈ s, f i := by
  classical
  induction s using Finset.induction_on with
  | empty => simp
  | insert a s ha ih => rw [Finset.sum_insert ha, Finset.sum_insert ha, ih, EReal.left_distrib_of_nonneg_of_ne_top h0 h1]

theorem scale_sq : 0 ≤ ρ * ρ ∧ ρ * ρ ≠ ⊤ := by
  refine ⟨mul_nonneg h0 h0, ?_⟩
  lift ρ to ℝ using ⟨h1, fun h => by simp [h] at h0⟩
  exact_mod_cast EReal.coe_ne_top _

omit h1 in
theorem act_scale (u : EReal) : act (ρ * u) = ρ * ρ * act u := by
  have e : max (ρ * u) 0 = ρ * max u 0 := by
    rw [(show Monotone fun x : EReal => ρ * x from fun a b h => mul_le_mul_of_nonneg_left h h0).map_max, mul_zero]
  unfold act
  rw [e, mul_mul_mul_comm]

/-- Normalising the scaled row scales it by less: the scale is folded into the factor. -/
theorem rowT_scale (w g : EReal) (u : Fin 2048 → EReal) (c : Fin 2048) :
    rowT w g ρ u c = w + ρ * ρ * u c * inv (fun k => ρ * ρ * u k) * g := by
  obtain ⟨s0, s1⟩ := scale_sq h0 h1
  obtain ⟨q0, q1⟩ := scale_sq s0 s1
  have e : ∑ j, ρ * ρ * u j * (ρ * ρ * u j) = ρ * ρ * (ρ * ρ) * ∑ j, u j * u j := by
    rw [← scale_sum q0 q1]
    exact Finset.sum_congr rfl fun j _ => mul_mul_mul_comm _ _ _ _
  have d : Ideal.div (ρ * ρ * (ρ * ρ) * ∑ j, u j * u j) (Ideal.ofBits .f32 0x45000000#32) =
      ρ * ρ * (ρ * ρ) * Ideal.div (∑ j, u j * u j) (Ideal.ofBits .f32 0x45000000#32) := by
    rw [len_eq, Ideal.div_coe (by norm_num), Ideal.div_coe (by norm_num), mul_assoc]
  unfold rowT inv
  rw [e, d]
  congr 2
  ac_rfl

end Cert.Mlp

end

end
-- ==== Proof.InProj.Proj.lean ====
/- The input projection's columns. -/
module

public import proofs.«01_k».proof.Proof.Load
public import proofs.«01_k».proof.Proof.Mlp.Scale

@[expose] public section

noncomputable section

namespace Cert.InProj

open Idealize.ShloMosaic Idealize.ShloMosaic.TcCoe Idealize.SL.Sem

/-- A row of the block times a column of a matrix, and the row's scale. -/
def prodT {r n : ℕ} (x : (⟨2, ![r, 2048]⟩ : Shape).Idx → Elt Ideal .bf16) (R : Fin r → EReal) (w : (⟨3, ![1, 2048, n]⟩ : Shape).Idx → Elt Ideal .bf16) (a : Fin r) (k : Fin n) : EReal :=
  (∑ e : Fin 2048, x (ix2 a e) * w (ix3 0 e k)) * R a

/-- The same of a part of the matrix's columns. -/
theorem prodT_cols {r n p : ℕ} (x : (⟨2, ![r, 2048]⟩ : Shape).Idx → Elt Ideal .bf16) (R : Fin r → EReal) (w : (⟨3, ![1, 2048, n]⟩ : Shape).Idx → Elt Ideal .bf16) (off : ℕ) (inb)
    (h : off + p ≤ n) (a : Fin r) (k : Fin p) :
    prodT x R (View.ld (Val := Elt Ideal) (e' := .bf16) w (Rect.unit (s := ⟨3, ![1, 2048, n]⟩) ![0, 0, off] ![1, 2048, p] inb)) a k = prodT x R w a ⟨off + k.val, by omega⟩ := by
  unfold prodT
  congr 1
  refine Finset.sum_congr rfl fun e _ => ?_
  congr 1
  refine congrArg w (funext fun b => Fin.ext ?_)
  fin_cases b
  · rfl
  · exact (Nat.zero_add _).trans (Nat.one_mul _)
  · exact congrArg (off + ·) (Nat.one_mul _)

/-- The factor of column `k`: the queries' unit, and one beyond them. -/
def unit (k : ℕ) : EReal := if k < 512 then Ideal.ofBits .f32 0x3E0293EE#32 else 1

theorem unit_real (k : ℕ) : 0 ≤ unit k ∧ unit k ≠ ⊤ := by
  unfold unit
  split
  · constructor
    · simp [Ideal.ofBits, Ideal.ieee, -EReal.coe_mul]
    · simp [Ideal.ofBits, Ideal.ieee, -EReal.coe_mul]
  · exact ⟨zero_le_one, EReal.coe_ne_top 1⟩

section
variable (l : Fin 4) (a0 : (⟨2, ![32768, 2048]⟩ : Shape).Idx → EReal) (a1 : (⟨2, ![4, 2048]⟩ : Shape).Idx → EReal) (a2 : (⟨3, ![4, 2048, 4612]⟩ : Shape).Idx → EReal)

/-- The layer's matrix, its rows scaled by the gains. -/
def scaled (d : Fin 2048) (k : Fin 4612) : EReal := a2 (ix3 l d k) * a1 (ix2 l d)

/-- Column `k` of row `r`'s projection: the gains go into the matrix, and the row's scale comes last. -/
def proj (r : Fin 32768) (k : Fin 4612) : EReal :=
  (∑ d : Fin 2048, a0 (ix2 r d) * scaled l a1 a2 d k) * inv fun d => a0 (ix2 r d)

/-- The columns for the local mixers. -/
def loc (r : Fin 32768) (k : Fin 3072) : EReal := proj l a0 a1 a2 r ⟨1540 + k.val, by omega⟩

/-- The columns for the attention, the queries in its units. -/
def qkv (r : Fin 32768) (k : Fin 1536) : EReal := proj l a0 a1 a2 r ⟨k.val, by omega⟩ * unit k.val

/-- The columns that begin with the gates' logits. -/
def gate (r : Fin 32768) (k : Fin 128) : EReal := proj l a0 a1 a2 r ⟨1536 + k.val, by omega⟩

/-- A column's factor may go into the matrix. -/
theorem proj_unit (r : Fin 32768) (k : Fin 4612) :
    (∑ d : Fin 2048, a0 (ix2 r d) * (scaled l a1 a2 d k * unit k.val)) * (inv fun d => a0 (ix2 r d)) = proj l a0 a1 a2 r k * unit k.val := by
  unfold proj
  rw [mul_right_comm]
  congr 1
  rw [mul_comm, ← Cert.Mlp.scale_sum (unit_real k.val).1 (unit_real k.val).2]
  refine Finset.sum_congr rfl fun d _ => ?_
  ac_rfl

end

end Cert.InProj

end

end
-- ==== Proof.InProj.Tile.lean ====
/- The blocks the input projection's kernel leaves at a grid point. -/
module

public import proofs.«01_k».proof.Proof.InProj.Proj
public import proofs.«01_k».proof.Proof.Gen.Kernel4Ideal.Frame
public import Idealize.ShloMosaic.Lib.Pipeline.Value
public import Idealize.ShloMosaic.Lib.Pointwise

@[expose] public section

noncomputable section

namespace Cert.InProj

open Idealize.ShloMosaic Idealize.ShloMosaic.TcCoe Idealize.SL.Sem
open Cert.Kernel4Ideal Cert.Kernel4Ideal.Gen

section
variable (x0 : FVec Ideal S1024x2048 .bf16) (x1 : FVec Ideal S1024x128 .f32) (R : Fin 1024 → EReal) (hR : ∀ a l, x1 (ix2 a l) = R a)
include hR

theorem pay1_apply (w : FVec Ideal S1x2048x128 .bf16) (a : Fin 1024) (k : Fin 128) : k0_pay1 (F := Ideal) (k0_pay2 x1) (k0_pay9 x0) w (ix2 a k) = prodT x0 R w a k := by
  pointwise [k0_pay1, k0_pay2, k0_pay9]
  simp only [hR]
  rfl

/-- Each tile of columns is the same product, by whichever store it is written. -/
theorem pay_apply (w : FVec Ideal S1x2048x768 .bf16) (a : Fin 1024) (k : Fin 768) : k0_pay8 (F := Ideal) (k0_pay2 x1) x0 w (ix2 a k) = prodT x0 R w a k := by
  pointwise [k0_pay8, k0_pay2]
  simp only [hR, dite_eq_ite, ite_self]
  rfl

/-- … and it is where it is stored. -/
theorem tile {n : ℕ} (w : (⟨3, ![1, 2048, n]⟩ : Shape).Idx → Elt Ideal .bf16) (off : ℕ) (inb inb') (h : off + 768 ≤ n) (a : Fin 1024) (k : Fin 768) :
    k0_pay8 (F := Ideal) (k0_pay2 x1) x0 (View.ld (Val := Elt Ideal) (e' := .bf16) w (Rect.unit (s := ⟨3, ![1, 2048, n]⟩) ![0, 0, off] ![1, 2048, 768] inb)) (ix2 a k) =
      prodT x0 R w ((Rect.unit (s := ⟨2, ![1024, n]⟩) ![0, off] ![1024, 768] inb').emb (ix2 a k) 0) ((Rect.unit (s := ⟨2, ![1024, n]⟩) ![0, off] ![1024, 768] inb').emb (ix2 a k) 1) := by
  rw [pay_apply x0 x1 R hR, prodT_cols x0 R w off inb h]
  exact congrArg₂ (prodT x0 R w) (Fin.ext ((Nat.zero_add _).trans (Nat.one_mul _)).symm) (Fin.ext (congrArg (off + ·) (Nat.one_mul _)).symm)

end

variable (c : Dev nD) (i : grid0.Coords) (arg1 : Memref sig .tc .vmem S1024x2048 .bf16) (harg1 : arg1.IsWhole) (arg2 : Memref sig .tc .vmem S1024x128 .f32) (harg2 : arg2.IsWhole)
  (arg3 : Memref sig .tc .vmem S1x2048x3072 .bf16) (harg3 : arg3.IsWhole) (arg4 : Memref sig .tc .vmem S1x2048x1536 .bf16) (harg4 : arg4.IsWhole)
  (arg5 : Memref sig .tc .vmem S1x2048x128 .bf16) (harg5 : arg5.IsWhole) (arg6 : Memref sig .tc .vmem S1024x3072 .bf16) (harg6 : arg6.IsWhole)
  (arg7 : Memref sig .tc .vmem S1024x1536 .bf16) (harg7 : arg7.IsWhole) (arg8 : Memref sig .tc .vmem S1024x128 .f32) (harg8 : arg8.IsWhole)
  (x0 : FVec Ideal S1024x2048 .bf16) (x1 : FVec Ideal S1024x128 .f32) (x2 : FVec Ideal S1x2048x3072 .bf16) (x3 : FVec Ideal S1x2048x1536 .bf16) (x4 : FVec Ideal S1x2048x128 .bf16)
  (R : Fin 1024 → EReal) (hR : ∀ a l, x1 (ix2 a l) = R a)
include hR

/-- The columns for the local mixers. -/
theorem out5_apply (y : S1024x3072.Idx) :
    out0_A_5 (F := Ideal) c i arg1 harg1 arg2 harg2 arg3 harg3 arg4 harg4 arg5 harg5 arg6 harg6 arg7 harg7 arg8 harg8 x0 x1 x2 x3 x4 y = prodT x0 R x2 (y 0) (y 1) := by
  unfold out0_A_5
  rw [View.read_writes_eq_canon _ _ _ (cover0_A_5 _ _ _ _ _ _ _ _ _ _ _ _ _ _ _ _ _ _ _ _ _ _ _)]
  refine View.canon_apply_of_pieces (Val := Elt Ideal) (S := S1024x3072) (e := .bf16) (fun y => prodT x0 R x2 (y 0) (y 1)) _ ?_ y (cover0_A_5 _ _ _ _ _ _ _ _ _ _ _ _ _ _ _ _ _ _ _ _ _ _ _ _)
  unfold kernelRun0_A kernelRun0_A.sl.r
  dsimp only
  intro p hp z
  fin_cases hp
  all_goals
    idx_vars z
    simp only [load_eq, load_all2, load_all3]
  · exact tile x0 x1 R hR x2 2304 _ _ (by omega) z0 z1
  · exact tile x0 x1 R hR x2 1536 _ _ (by omega) z0 z1
  · exact tile x0 x1 R hR x2 768 _ _ (by omega) z0 z1
  · exact tile x0 x1 R hR x2 0 _ _ (by omega) z0 z1

/-- The columns for the attention. -/
theorem out6_apply (y : S1024x1536.Idx) :
    out0_A_6 (F := Ideal) c i arg1 harg1 arg2 harg2 arg3 harg3 arg4 harg4 arg5 harg5 arg6 harg6 arg7 harg7 arg8 harg8 x0 x1 x2 x3 x4 y = prodT x0 R x3 (y 0) (y 1) := by
  unfold out0_A_6
  rw [View.read_writes_eq_canon _ _ _ (cover0_A_6 _ _ _ _ _ _ _ _ _ _ _ _ _ _ _ _ _ _ _ _ _ _ _)]
  refine View.canon_apply_of_pieces (Val := Elt Ideal) (S := S1024x1536) (e := .bf16) (fun y => prodT x0 R x3 (y 0) (y 1)) _ ?_ y (cover0_A_6 _ _ _ _ _ _ _ _ _ _ _ _ _ _ _ _ _ _ _ _ _ _ _ _)
  unfold kernelRun0_A kernelRun0_A.sl.r
  dsimp only
  intro p hp z
  fin_cases hp
  all_goals
    idx_vars z
    simp only [load_eq, load_all2, load_all3]
  · exact tile x0 x1 R hR x3 768 _ _ (by omega) z0 z1
  · exact tile x0 x1 R hR x3 0 _ _ (by omega) z0 z1

/-- The columns that begin with the gates' logits. -/
theorem out7_apply (y : S1024x128.Idx) :
    out0_A_7 (F := Ideal) c i arg1 harg1 arg2 harg2 arg3 harg3 arg4 harg4 arg5 harg5 arg6 harg6 arg7 harg7 arg8 harg8 x0 x1 x2 x3 x4 y = prodT x0 R x4 (y 0) (y 1) := by
  unfold out0_A_7
  rw [View.read_writes_eq_canon _ _ _ (cover0_A_7 _ _ _ _ _ _ _ _ _ _ _ _ _ _ _ _ _ _ _ _ _ _ _)]
  refine View.canon_apply_of_pieces (Val := Elt Ideal) (S := S1024x128) (e := .f32) (fun y => prodT x0 R x4 (y 0) (y 1)) _ ?_ y (cover0_A_7 _ _ _ _ _ _ _ _ _ _ _ _ _ _ _ _ _ _ _ _ _ _ _ _)
  unfold kernelRun0_A kernelRun0_A.sl.r kernelRun0_A.sl.r_1
  dsimp only
  intro p hp z
  fin_cases hp
  idx_vars z
  simp only [load_eq, load_all2, load_all3]
  refine (pay1_apply x0 x1 R hR x4 z0 z1).trans ?_
  exact congrArg₂ (prodT x0 R x4) (Fin.ext ((Nat.zero_add _).trans (Nat.one_mul _)).symm) (Fin.ext ((Nat.zero_add _).trans (Nat.one_mul _)).symm)

end Cert.InProj

end

end
-- ==== Proof.InProj.Kern.lean ====
/- The arrays the input projection leaves. -/
module

public import proofs.«01_k».proof.Proof.InProj.Tile
public import proofs.«01_k».proof.Proof.Gen.Kernel4Ideal.Value
public import Idealize.ShloMosaic.Lib.Pipeline.ValueKit.Point

@[expose] public section

noncomputable section

namespace Cert.InProj

open Idealize.ShloMosaic Idealize.ShloMosaic.TcCoe Idealize.SL.Sem
open Cert.Kernel4Ideal Cert.Kernel4Ideal.Gen

variable (m : (ℓ : Loc nD τ sig) → Buf (Elt Ideal) ℓ)

/-- Where each window's block lies. -/
theorem idx : ∀ t : Fin cfg0.N,
    win0_0.index t = ![t.val, 0] ∧ win0_1.index t = ![t.val, 0] ∧ win0_2.index t = ![3, 0, 0] ∧ win0_3.index t = ![3, 0, 0] ∧
    win0_4.index t = ![3, 0, 12] ∧ win0_5.index t = ![t.val, 0] ∧ win0_6.index t = ![t.val, 0] ∧ win0_7.index t = ![t.val, 0] :=
  (by decide +kernel : ∀ t : Fin grid0.N, _)

theorem lt_points (t : Fin cfg0.N) : t.val < 32 := lt_of_lt_of_eq t.isLt (show cfg0.N = 32 from N_0)

/-- A row of the arrays, by its block and its place there. -/
def row (n : ℕ) (hn : n < 32) (a : Fin 1024) : Fin 32768 := ⟨n * 1024 + a.val, by omega⟩

/-- The columns' factors, as the launch finds them. -/
def units : FVec Ideal S1664 .f32 :=
  select (cmpi .slt (iotaInDim S1664 32 0) (broadcastInDim S1664 ![] bcast_S_S1664 (constantI S_ 32 512#32)))
    (broadcastInDim S1664 ![] bcast_S_S1664 (constant S_ .f32 0x3E0293EE#32)) (broadcastInDim S1664 ![] bcast_S_S1664 (constant S_ .f32 0x3F800000#32))

theorem below : ∀ k : Fin 1664, IntOp.cmpi CmpIPredicate.slt (BitVec.ofNat 32 k.val) 512#32 = if k.val < 512 then 1 else 0 := by
  decide +kernel

theorem units_apply (k : Fin 1664) : units (ix1 k) = unit k.val := by
  pointwise [units]
  rw [below]
  unfold unit Scalar.select
  split
  · exact if_pos rfl
  · exact if_neg (by decide)

/-- The matrix of the columns for the attention and the gates. -/
def wide (a1 : FVec Ideal S4x2048 .f32) (a2 : FVec Ideal S4x2048x4612 .f32) : FVec Ideal S4x2048x1664 .bf16 :=
  truncf .bf16 (mulf
    (mulf (extractStridedSlice S4x2048x1664 ![0, 0, 0] a2 slices_S4x2048x4612_S4x2048x1664_0_0_0)
      (broadcastInDim S4x2048x1664 ![0, 1, 2] bcast_S4x2048x1_S4x2048x1664_0_1_2 (broadcastInDim S4x2048x1 ![0, 1] bcast_S4x2048_S4x2048x1_0_1 a1)))
    (broadcastInDim S4x2048x1664 ![0, 1, 2] bcast_S1x1x1664_S4x2048x1664_0_1_2 (broadcastInDim S1x1x1664 ![2] bcast_S1664_S1x1x1664_2 units))) bitsLt_bf16_f32

theorem wide_apply (a1 : FVec Ideal S4x2048 .f32) (a2 : FVec Ideal S4x2048x4612 .f32) (l : Fin 4) (d : Fin 2048) (k : Fin 1664) :
    wide a1 a2 (ix3 l d k) = a2 (ix3 l d ⟨k.val, by omega⟩) * a1 (ix2 l d) * unit k.val := by
  rw [← units_apply]
  generalize hu : units = u
  unfold wide
  rw [hu]
  pointwise []

theorem V_wide (c : Dev nD) : V m c main_v22 = wide (m ((c.tc : Thread nD τ).loc main_arg1)) (m ((c.tc : Thread nD τ).loc main_arg2)) := by
  blk_simp [V]
  rfl

/-- The matrix of the columns for the local mixers. -/
def tail (a1 : FVec Ideal S4x2048 .f32) (a2 : FVec Ideal S4x2048x4612 .f32) : FVec Ideal S4x2048x3072 .bf16 :=
  truncf .bf16 (mulf (extractStridedSlice S4x2048x3072 ![0, 0, 1540] a2 slices_S4x2048x4612_S4x2048x3072_0_0_1540)
    (broadcastInDim S4x2048x3072 ![0, 1, 2] bcast_S4x2048x1_S4x2048x3072_0_1_2 (broadcastInDim S4x2048x1 ![0, 1] bcast_S4x2048_S4x2048x1_0_1 a1))) bitsLt_bf16_f32

theorem tail_apply (a1 : FVec Ideal S4x2048 .f32) (a2 : FVec Ideal S4x2048x4612 .f32) (l : Fin 4) (d : Fin 2048) (k : Fin 3072) :
    tail a1 a2 (ix3 l d k) = a2 (ix3 l d ⟨1540 + k.val, by omega⟩) * a1 (ix2 l d) := by
  pointwise [tail]

theorem V_tail (c : Dev nD) : V m c main_v26 = tail (m ((c.tc : Thread nD τ).loc main_arg1)) (m ((c.tc : Thread nD τ).loc main_arg2)) := by
  blk_simp [V]
  rfl

/-- The scales the launch finds. -/
def scales (a0 : FVec Ideal S32768x2048 .f32) : FVec Ideal S32768x128 .f32 :=
  broadcastInDim S32768x128 ![0, 1] bcast_S32768x1_S32768x128_0_1 (Host.rsqrt (addf (Host.divf
    (broadcastInDim S32768x1 ![0] bcast_S32768_S32768x1_0 (Host.reduceAdd (mulf a0 a0) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))

theorem scales_apply (a0 : FVec Ideal S32768x2048 .f32) (r : Fin 32768) (l : Fin 128) : scales a0 (ix2 r l) = inv fun d => a0 (ix2 r d) := by
  pointwise [scales]
  rfl

theorem V_scales (c : Dev nD) : V m c main_v9 = scales (m ((c.tc : Thread nD τ).loc main_arg0)) := by
  blk_simp [V]
  rfl

/-- The row scales of a block. -/
theorem scale_eq (c : Dev nD) (t : Fin cfg0.N) (a : Fin 1024) (l : Fin 128) :
    iblk m c 1 t (ix2 a l) = inv fun d => m ((c.tc : Thread nD τ).loc main_arg0) (ix2 (row t.val (lt_points t) a) d) := by
  obtain ⟨i0, i1, i2, i3, i4, i5, i6, i7⟩ := idx t
  refine (congrFun (V_scales m c) ((win0_1.blk t).view.emb (ix2 a l))).trans ?_
  refine Eq.trans (congrArg _ ?_) (scales_apply _ (row t.val (lt_points t) a) l)
  unfold row
  blk_point [i1]

/-- A block's rows of the stream. -/
theorem rows_eq (c : Dev nD) (t : Fin cfg0.N) (a : Fin 1024) (d : Fin 2048) :
    iblk m c 0 t (ix2 a d) = m ((c.tc : Thread nD τ).loc main_arg0) (ix2 (row t.val (lt_points t) a) d) := by
  obtain ⟨i0, i1, i2, i3, i4, i5, i6, i7⟩ := idx t
  unfold row
  blk_point [iblk, V, i0]

theorem tail_eq (c : Dev nD) (t : Fin cfg0.N) (d : Fin 2048) (k : Fin 3072) :
    iblk m c 2 t (ix3 0 d k) = scaled 3 (m ((c.tc : Thread nD τ).loc main_arg1)) (m ((c.tc : Thread nD τ).loc main_arg2)) d ⟨1540 + k.val, by omega⟩ := by
  obtain ⟨i0, i1, i2, i3, i4, i5, i6, i7⟩ := idx t
  refine (congrFun (V_tail m c) ((win0_2.blk t).view.emb (ix3 0 d k))).trans ?_
  refine Eq.trans (congrArg _ ?_) (tail_apply _ _ 3 d k)
  blk_point [i2]

theorem wide_eq (c : Dev nD) (t : Fin cfg0.N) (d : Fin 2048) (k : Fin 1536) :
    X0_3 m c t (ix3 0 d k) = scaled 3 (m ((c.tc : Thread nD τ).loc main_arg1)) (m ((c.tc : Thread nD τ).loc main_arg2)) d ⟨k.val, by omega⟩ * unit k.val := by
  obtain ⟨i0, i1, i2, i3, i4, i5, i6, i7⟩ := idx t
  unfold X0_3 Pipeline.Window.fill
  rw [dif_pos (moved0_3 t _)]
  refine (congrFun (V_wide m c) ((win0_3.blk t).view.emb _)).trans ?_
  refine Eq.trans (congrArg _ ?_) (wide_apply _ _ 3 d ⟨k.val, by omega⟩)
  blk_point [i3]

theorem gate_eq (c : Dev nD) (t : Fin cfg0.N) (d : Fin 2048) (k : Fin 128) :
    iblk m c 4 t (ix3 0 d k) = scaled 3 (m ((c.tc : Thread nD τ).loc main_arg1)) (m ((c.tc : Thread nD τ).loc main_arg2)) d ⟨1536 + k.val, by omega⟩ * unit (1536 + k.val) := by
  obtain ⟨i0, i1, i2, i3, i4, i5, i6, i7⟩ := idx t
  refine (congrFun (V_wide m c) ((win0_4.blk t).view.emb (ix3 0 d k))).trans ?_
  refine Eq.trans (congrArg _ ?_) (wide_apply _ _ 3 d ⟨1536 + k.val, by omega⟩)
  blk_point [i4]

section
variable (c : Dev nD) (t : Fin cfg0.N) (a : Fin 1024)

/-- The row scales of a block, as one function. -/
def rowScale : Fin 1024 → EReal := fun a => inv fun d => m ((c.tc : Thread nD τ).loc main_arg0) (ix2 (row t.val (lt_points t) a) d)

theorem locT_eq (k : Fin 3072) : prodT (iblk m c 0 t) (rowScale m c t) (iblk m c 2 t) a k =
    loc 3 (m ((c.tc : Thread nD τ).loc main_arg0)) (m ((c.tc : Thread nD τ).loc main_arg1)) (m ((c.tc : Thread nD τ).loc main_arg2)) (row t.val (lt_points t) a) k := by
  unfold prodT loc proj rowScale
  refine congrArg (· * _) (Finset.sum_congr rfl fun d _ => ?_)
  rw [rows_eq, tail_eq]

theorem qkvT_eq (k : Fin 1536) : prodT (iblk m c 0 t) (rowScale m c t) (X0_3 m c t) a k =
    qkv 3 (m ((c.tc : Thread nD τ).loc main_arg0)) (m ((c.tc : Thread nD τ).loc main_arg1)) (m ((c.tc : Thread nD τ).loc main_arg2)) (row t.val (lt_points t) a) k := by
  unfold prodT qkv rowScale
  rw [← proj_unit]
  refine congrArg (· * _) (Finset.sum_congr rfl fun d _ => ?_)
  rw [rows_eq, wide_eq]

theorem gateT_eq (k : Fin 128) : prodT (iblk m c 0 t) (rowScale m c t) (iblk m c 4 t) a k =
    gate 3 (m ((c.tc : Thread nD τ).loc main_arg0)) (m ((c.tc : Thread nD τ).loc main_arg1)) (m ((c.tc : Thread nD τ).loc main_arg2)) (row t.val (lt_points t) a) k := by
  unfold prodT gate proj rowScale
  refine congrArg (· * _) (Finset.sum_congr rfl fun d _ => ?_)
  rw [rows_eq, gate_eq, show unit (1536 + k.val) = 1 from if_neg (by omega), mul_one]

end

/-- The array the local mixers' columns are left in. -/
theorem arr5_eq (c : Dev nD) :
    (dats m 0 c).arrAt 5 cfg0.N = fun i : S32768x3072.Idx => loc 3 (m ((c.tc : Thread nD τ).loc main_arg0)) (m ((c.tc : Thread nD τ).loc main_arg1)) (m ((c.tc : Thread nD τ).loc main_arg2)) (i 0) (i 1) := by
  refine (dats m 0 c).arrAt_eq_of_covers 5 _ (by decide +kernel) fun t hf y => ?_
  blk_simp
  rw [after0_5]
  unfold outsAt0
  dsimp only
  rw [out5_apply (hR := scale_eq m c t)]
  refine (locT_eq m c t (y 0) (y 1)).trans ?_
  obtain ⟨i0, i1, i2, i3, i4, i5, i6, i7⟩ := idx t
  exact congrArg₂ (loc _ _ _ _) (Fin.ext (by blk_simp [i5, row])) (Fin.ext (by blk_simp [i5]))

/-- The array the attention's columns are left in. -/
theorem arr6_eq (c : Dev nD) :
    (dats m 0 c).arrAt 6 cfg0.N = fun i : S32768x1536.Idx => qkv 3 (m ((c.tc : Thread nD τ).loc main_arg0)) (m ((c.tc : Thread nD τ).loc main_arg1)) (m ((c.tc : Thread nD τ).loc main_arg2)) (i 0) (i 1) := by
  refine (dats m 0 c).arrAt_eq_of_covers 6 _ (by decide +kernel) fun t hf y => ?_
  blk_simp
  rw [after0_6]
  unfold outsAt0
  dsimp only
  rw [out6_apply (hR := scale_eq m c t)]
  refine (qkvT_eq m c t (y 0) (y 1)).trans ?_
  obtain ⟨i0, i1, i2, i3, i4, i5, i6, i7⟩ := idx t
  exact congrArg₂ (qkv _ _ _ _) (Fin.ext (by blk_simp [i6, row])) (Fin.ext (by blk_simp [i6]))

/-- The array the gates' columns are left in. -/
theorem arr7_eq (c : Dev nD) :
    (dats m 0 c).arrAt 7 cfg0.N = fun i : S32768x128.Idx => gate 3 (m ((c.tc : Thread nD τ).loc main_arg0)) (m ((c.tc : Thread nD τ).loc main_arg1)) (m ((c.tc : Thread nD τ).loc main_arg2)) (i 0) (i 1) := by
  refine (dats m 0 c).arrAt_eq_of_covers 7 _ (by decide +kernel) fun t hf y => ?_
  blk_simp
  rw [after0_7]
  unfold outsAt0
  dsimp only
  rw [out7_apply (hR := scale_eq m c t)]
  refine (gateT_eq m c t (y 0) (y 1)).trans ?_
  obtain ⟨i0, i1, i2, i3, i4, i5, i6, i7⟩ := idx t
  exact congrArg₂ (gate _ _ _ _) (Fin.ext (by blk_simp [i7, row])) (Fin.ext (by blk_simp [i7]))

end Cert.InProj

end

end
-- ==== Proof.InProj.Ref.lean ====
/- The input projection's reference, entry by entry. -/
module

public import proofs.«01_k».proof.Proof.InProj.Kern
public import proofs.«01_k».proof.Proof.Gen.Reference4Ideal.Read
public import Idealize.ShloMosaic.Lib.Pointwise

@[expose] public section

noncomputable section

namespace Cert.InProj

open Idealize.ShloMosaic Idealize.ShloMosaic.TcCoe Idealize.SL.Sem
open Cert.Reference4Ideal Cert.Reference4Ideal.Gen Cert.Reference4Ideal.Read

variable (a0 : FVec Ideal S32768x2048 .f32) (a1 : FVec Ideal S4x2048 .f32) (a2 : FVec Ideal S4x2048x4612 .f32)

theorem refScale (r : Fin 32768) (l : Fin 1) : val_main_v9 (F := Ideal) a0 (ix2 r l) = inv fun d => a0 (ix2 r d) := by
  pointwise [val_main_v9, val_main_v8, val_main_v7, val_main_v6, val_main_v5, val_main_v4, val_main_v3, val_main_v2, val_main_cst, val_main_cst_0, val_main_cst_1]
  rfl

theorem refNorm (r : Fin 32768) (d : Fin 2048) :
    val_main_v14 (F := Ideal) a0 a1 (ix2 r d) = a0 (ix2 r d) * (inv fun d => a0 (ix2 r d)) * a1 (ix2 3 d) := by
  pointwise [val_main_v14, val_main_v13, val_main_v12, val_main_v11, val_main_v10, val_main_v1, val_main_v0]
  simp only [refScale]

/-- The row's scale comes out of the product. -/
theorem refProj (r : Fin 32768) (k : Fin 4612) : val_main_v17 (F := Ideal) a0 a1 a2 (ix2 r k) = proj 3 a0 a1 a2 r k := by
  pointwise [val_main_v17, val_main_v16, val_main_v15]
  simp only [refNorm]
  obtain ⟨h0, h1⟩ := Cert.Mlp.inv_real fun d => a0 (ix2 r d)
  unfold proj
  rw [mul_comm, ← Cert.Mlp.scale_sum h0 h1]
  refine Finset.sum_congr rfl fun d _ => ?_
  unfold scaled
  ac_rfl

theorem refLoc (r : Fin 32768) (k : Fin 3072) : val_main_v24 (F := Ideal) a0 a1 a2 (ix2 r k) = loc 3 a0 a1 a2 r k := by
  pointwise [val_main_v24, val_main_v23]
  exact refProj a0 a1 a2 r ⟨1540 + k.val, by omega⟩

theorem refGate (r : Fin 32768) (k : Fin 128) : val_main_v26 (F := Ideal) a0 a1 a2 (ix2 r k) = gate 3 a0 a1 a2 r k := by
  pointwise [val_main_v26]
  exact refProj a0 a1 a2 r ⟨1536 + k.val, by omega⟩

theorem refQkv (r : Fin 32768) (k : Fin 1536) : val_main_v25 (F := Ideal) a0 a1 a2 (ix2 r k) = qkv 3 a0 a1 a2 r k := by
  pointwise [val_main_v25, val_main_v22, val_main_v21, val_main_v20, val_main_v19, val_main_v18, val_main_cst_2]
  simp only [refProj]
  unfold qkv unit
  by_cases h : k.val < 512
  · rw [dif_pos h, if_pos h]
  · rw [dif_neg h, if_neg h, mul_one]
    exact congrArg (proj 3 a0 a1 a2 r) (Fin.ext (by dsimp only; omega))

end Cert.InProj

end

end
-- ==== Proof.InProj.Same.lean ====
/- The claims about the input projection. -/
module

public import proofs.«01_k».proof.Defs
public import proofs.«01_k».proof.Proof.InProj.Ref
public import proofs.«01_k».proof.Proof.Gen.Kernel4Ideal
public import proofs.«01_k».proof.Proof.Gen.Reference4Ideal
public import proofs.«01_k».proof.Proof.Gen.Reference4Ideal.Run
public import Idealize.ShloMosaic.Adequacy
public import Idealize.ShloMosaic.Lib.Quiescent

@[expose] public section

noncomputable section

namespace Cert.InProj

open Idealize.ShloMosaic Idealize.ShloMosaic.TcCoe Idealize.SL.Sem

theorem quiescent : Cert.quiescent_Reference4Ideal := fun m g _ =>
  (θ_run _ _ _).mono (fun _ h => ⟨fun c => (h c).2.2.2, sem_eq_zero_of_no_sems rfl _⟩) (Cert.Reference4Ideal.Value.run m g)

theorem algebraic : Cert.algebraic_Kernel4Ideal_Reference4Ideal := by
  intro m g m' g' _ ha
  let x := fun c : Dev Cert.Kernel4Ideal.nD => m ((c.tc : Thread _ _).loc Cert.Kernel4Ideal.main_arg0)
  let n := fun c : Dev Cert.Kernel4Ideal.nD => m ((c.tc : Thread _ _).loc Cert.Kernel4Ideal.main_arg1)
  let w := fun c : Dev Cert.Kernel4Ideal.nD => m ((c.tc : Thread _ _).loc Cert.Kernel4Ideal.main_arg2)
  refine ⟨fun c i => loc 3 (x c) (n c) (w c) (i 0) (i 1), fun c i => qkv 3 (x c) (n c) (w c) (i 0) (i 1), fun c i => gate 3 (x c) (n c) (w c) (i 0) (i 1), ?_, ?_⟩
  · refine (θ_run _ _ _).mono (fun r h c => ?_) (Cert.Kernel4Ideal.Value.run_blocks m g)
    obtain ⟨e0, e1, e2, k⟩ := h c
    exact ⟨e0.trans (arr5_eq m c), e1.trans (arr6_eq m c), e2.trans (arr7_eq m c), k⟩
  · refine (θ_run _ _ _).mono (fun r h c => ?_) (Cert.Reference4Ideal.Value.run m' g')
    obtain ⟨e0, e1, e2, k⟩ := h c
    obtain ⟨a0, a1, a2⟩ := ha c
    refine ⟨e0.trans ?_, e1.trans ?_, e2.trans ?_, k⟩
    · rw [Cert.Reference4Ideal.Read.val_main_v24_eq, a0, a1, a2]
      funext i
      idx_vars i
      exact refLoc _ _ _ _ _
    · rw [Cert.Reference4Ideal.Read.val_main_v25_eq, a0, a1, a2]
      funext i
      idx_vars i
      exact refQkv _ _ _ _ _
    · rw [Cert.Reference4Ideal.Read.val_main_v26_eq, a0, a1, a2]
      funext i
      idx_vars i
      exact refGate _ _ _ _ _

end Cert.InProj

end

end
-- ==== Proof.First.Tile.lean ====
/- The blocks the first layer's input projection leaves at a grid point. -/
module

public import proofs.«01_k».proof.Proof.InProj.Proj
public import proofs.«01_k».proof.Proof.Gen.Kernel5Ideal.Frame
public import Idealize.ShloMosaic.Lib.Pipeline.Value
public import Idealize.ShloMosaic.Lib.Pointwise

@[expose] public section

noncomputable section

namespace Cert.First

open Idealize.ShloMosaic Idealize.ShloMosaic.TcCoe Idealize.SL.Sem
open Cert.Kernel5Ideal Cert.Kernel5Ideal.Gen Cert.InProj

section
variable (x0 : FVec Ideal S512x2048 .f32)

/-- The inverse root mean square of a row of the block. -/
def rowInv (a : Fin 512) : EReal := inv fun d => x0 (ix2 a d)

/-- The scales stored together, where they are stored. -/
theorem scaleT (off : ℕ) (inb inb') (h : off + 128 ≤ 512) (a : Fin 128) (l : Fin 128) :
    k0_pay5 (F := Ideal) (View.ld (Val := Elt Ideal) (e' := .f32) x0 (Rect.unit (s := S512x2048) ![off, 0] ![128, 2048] inb)) (ix2 a l) =
      rowInv x0 ((Rect.unit (s := S512x128) ![off, 0] ![128, 128] inb').emb (ix2 a l) 0) := by
  have e : ∀ v : FVec Ideal S128x2048 .f32, k0_pay5 (F := Ideal) v (ix2 a l) = inv fun d => v (ix2 a d) := by
    intro v
    pointwise [k0_pay5]
    rfl
  rw [e]
  refine congrArg inv (funext fun d => congrArg x0 (funext fun b => Fin.ext ?_))
  fin_cases b
  · rfl
  · exact (Nat.zero_add _).trans (Nat.one_mul _)

variable (S : FVec Ideal S512x128 .f32) (X : FVec Ideal S512x2048 .bf16) (R : Fin 512 → EReal) (hR : ∀ a l, S (ix2 a l) = R a)
include hR

theorem pay3_apply (w : FVec Ideal S1x2048x128 .bf16) (a : Fin 512) (k : Fin 128) : k0_pay3 (F := Ideal) S X w (ix2 a k) = prodT X R w a k := by
  pointwise [k0_pay3]
  simp only [hR]
  rfl

/-- Each tile of columns is the same product, by whichever store it is written. -/
theorem pay_apply (w : FVec Ideal S1x2048x768 .bf16) (a : Fin 512) (k : Fin 768) : k0_pay1 (F := Ideal) S X w (ix2 a k) = prodT X R w a k := by
  pointwise [k0_pay1]
  simp only [hR, dite_eq_ite, ite_self]
  rfl

/-- … and it is where it is stored. -/
theorem tile {n : ℕ} (w : (⟨3, ![1, 2048, n]⟩ : Shape).Idx → Elt Ideal .bf16) (off : ℕ) (inb inb') (h : off + 768 ≤ n) (a : Fin 512) (k : Fin 768) :
    k0_pay1 (F := Ideal) S X (View.ld (Val := Elt Ideal) (e' := .bf16) w (Rect.unit (s := ⟨3, ![1, 2048, n]⟩) ![0, 0, off] ![1, 2048, 768] inb)) (ix2 a k) =
      prodT X R w ((Rect.unit (s := ⟨2, ![512, n]⟩) ![0, off] ![512, 768] inb').emb (ix2 a k) 0) ((Rect.unit (s := ⟨2, ![512, n]⟩) ![0, off] ![512, 768] inb').emb (ix2 a k) 1) := by
  rw [pay_apply S X R hR, prodT_cols X R w off inb h]
  exact congrArg₂ (prodT X R w) (Fin.ext ((Nat.zero_add _).trans (Nat.one_mul _)).symm) (Fin.ext (congrArg (off + ·) (Nat.one_mul _)).symm)

end

variable (c : Dev nD) (i : grid0.Coords) (arg1 : Memref sig .tc .vmem S512x2048 .f32) (harg1 : arg1.IsWhole) (arg2 : Memref sig .tc .vmem S1x2048x3072 .bf16) (harg2 : arg2.IsWhole)
  (arg3 : Memref sig .tc .vmem S1x2048x1536 .bf16) (harg3 : arg3.IsWhole) (arg4 : Memref sig .tc .vmem S1x2048x128 .bf16) (harg4 : arg4.IsWhole)
  (arg5 : Memref sig .tc .vmem S512x3072 .bf16) (harg5 : arg5.IsWhole) (arg6 : Memref sig .tc .vmem S512x1536 .bf16) (harg6 : arg6.IsWhole)
  (arg7 : Memref sig .tc .vmem S512x128 .f32) (harg7 : arg7.IsWhole) (arg8 : Memref sig .tc .vmem S512x2048 .bf16) (harg8 : arg8.IsWhole)
  (arg9 : Memref sig .tc .vmem S512x128 .f32) (harg9 : arg9.IsWhole)
  (x0 : FVec Ideal S512x2048 .f32) (x1 : FVec Ideal S1x2048x3072 .bf16) (x2 : FVec Ideal S1x2048x1536 .bf16) (x3 : FVec Ideal S1x2048x128 .bf16)

/-- The rows stored as the copy of the stream are the block's. -/
theorem copies (p) (hp : p ∈ kernelRun0_A.sl.H7_4 (F := Ideal) c arg1 harg1 x0) (z : p.1.shape.Idx) : p.2 z = x0 (p.1.emb z) := by
  unfold kernelRun0_A.sl.H7_4 at hp
  fin_cases hp
  all_goals
    simp only [load_eq]
    rfl

/-- The rows stored as the scales are those of the block's rows. -/
theorem scaleds (p) (hp : p ∈ kernelRun0_A.sl.H8_4 (F := Ideal) c arg1 harg1 x0) (z : p.1.shape.Idx) : p.2 z = rowInv x0 (p.1.emb z 0) := by
  unfold kernelRun0_A.sl.H8_4 kernelRun0_A.sl.r at hp
  fin_cases hp
  all_goals
    idx_vars z
    simp only [load_eq]
  · exact scaleT x0 384 _ _ (by omega) z0 z1
  · exact scaleT x0 256 _ _ (by omega) z0 z1
  · exact scaleT x0 128 _ _ (by omega) z0 z1
  · exact scaleT x0 0 _ _ (by omega) z0 z1

section
include i arg2 harg2 arg3 harg3 arg4 harg4 arg5 harg5 arg6 harg6 arg7 harg7 arg8 harg8 arg9 harg9 x1 x2 x3

theorem copy_cover (y : S512x2048.Idx) : ∃ p ∈ kernelRun0_A.sl.H7_4 (F := Ideal) c arg1 harg1 x0, y ∈ p.1.set := by
  have h := cover0_A_7 (F := Ideal) c i arg1 harg1 arg2 harg2 arg3 harg3 arg4 harg4 arg5 harg5 arg6 harg6 arg7 harg7 arg8 harg8 arg9 harg9 x0 x1 x2 x3 y
  unfold kernelRun0_A at h
  exact h

theorem scale_cover (y : S512x128.Idx) : ∃ p ∈ kernelRun0_A.sl.H8_4 (F := Ideal) c arg1 harg1 x0, y ∈ p.1.set := by
  have h := cover0_A_8 (F := Ideal) c i arg1 harg1 arg2 harg2 arg3 harg3 arg4 harg4 arg5 harg5 arg6 harg6 arg7 harg7 arg8 harg8 arg9 harg9 x0 x1 x2 x3 y
  unfold kernelRun0_A at h
  exact h

/-- The copy read back is the block. -/
theorem read_copy : kernelRun0_A.sl.v58 (F := Ideal) c arg1 harg1 arg8 x0 = x0 := by
  unfold kernelRun0_A.sl.v58
  rw [View.readCov_eq_canon']
  funext y
  refine (View.canon_apply_of_pieces (Val := Elt Ideal) (S := S512x2048) (e := .bf16) x0 _ (copies c arg1 harg1 x0) _ (copy_cover c i arg1 harg1 arg2 harg2 arg3 harg3 arg4 harg4 arg5 harg5 arg6 harg6 arg7 harg7 arg8 harg8 arg9 harg9 x0 x1 x2 x3 _)).trans (congrArg x0 (funext fun b => Fin.ext ?_))
  fin_cases b
  · exact (Nat.zero_add _).trans (Nat.one_mul _)
  · exact (Nat.zero_add _).trans (Nat.one_mul _)

/-- … each time it is read. -/
theorem read_again : kernelRun0_A.sl.v103 (F := Ideal) c arg1 harg1 arg8 x0 = x0 := by
  refine Eq.trans ?_ (read_copy c i arg1 harg1 arg2 harg2 arg3 harg3 arg4 harg4 arg5 harg5 arg6 harg6 arg7 harg7 arg8 harg8 arg9 harg9 x0 x1 x2 x3)
  unfold kernelRun0_A.sl.v103 kernelRun0_A.sl.v58
  with_reducible rfl

/-- The scales read back are those of the block's rows. -/
theorem read_scale (a : Fin 512) (l : Fin 128) : kernelRun0_A.sl.r_1 (F := Ideal) c arg1 harg1 arg9 x0 (ix2 a l) = rowInv x0 a := by
  unfold kernelRun0_A.sl.r_1
  have e : kernelRun0_A.sl.v56 (F := Ideal) c arg1 harg1 arg9 x0 (ix2 a l) = rowInv x0 a := by
    unfold kernelRun0_A.sl.v56
    rw [View.readCov_eq_canon']
    refine (View.canon_apply_of_pieces (Val := Elt Ideal) (S := S512x128) (e := .f32) (fun y => rowInv x0 (y 0)) _ (scaleds c arg1 harg1 x0) _ (scale_cover c i arg1 harg1 arg2 harg2 arg3 harg3 arg4 harg4 arg5 harg5 arg6 harg6 arg7 harg7 arg8 harg8 arg9 harg9 x0 x1 x2 x3 _)).trans (congrArg (rowInv x0) (Fin.ext ?_))
    exact (Nat.zero_add _).trans (Nat.one_mul _)
  refine Eq.trans ?_ e
  pointwise [k0_pay13]

end

/-- The columns for the local mixers. -/
theorem out4_apply (y : S512x3072.Idx) :
    out0_A_4 (F := Ideal) c i arg1 harg1 arg2 harg2 arg3 harg3 arg4 harg4 arg5 harg5 arg6 harg6 arg7 harg7 arg8 harg8 arg9 harg9 x0 x1 x2 x3 y = prodT x0 (rowInv x0) x1 (y 0) (y 1) := by
  unfold out0_A_4
  rw [View.read_writes_eq_canon _ _ _ (cover0_A_4 _ _ _ _ _ _ _ _ _ _ _ _ _ _ _ _ _ _ _ _ _ _ _ _)]
  refine View.canon_apply_of_pieces (Val := Elt Ideal) (S := S512x3072) (e := .bf16) (fun y => prodT x0 (rowInv x0) x1 (y 0) (y 1)) _ ?_ y (cover0_A_4 _ _ _ _ _ _ _ _ _ _ _ _ _ _ _ _ _ _ _ _ _ _ _ _ _)
  unfold kernelRun0_A kernelRun0_A.sl.r_2
  dsimp only
  intro p hp z
  fin_cases hp
  all_goals
    idx_vars z
    simp only [load_eq, load_all2, load_all3]
    simp only [read_copy c i arg1 harg1 arg2 harg2 arg3 harg3 arg4 harg4 arg5 harg5 arg6 harg6 arg7 harg7 arg8 harg8 arg9 harg9 x0 x1 x2 x3, read_again c i arg1 harg1 arg2 harg2 arg3 harg3 arg4 harg4 arg5 harg5 arg6 harg6 arg7 harg7 arg8 harg8 arg9 harg9 x0 x1 x2 x3]
  · exact tile _ x0 (rowInv x0) (read_scale c i arg1 harg1 arg2 harg2 arg3 harg3 arg4 harg4 arg5 harg5 arg6 harg6 arg7 harg7 arg8 harg8 arg9 harg9 x0 x1 x2 x3) x1 2304 _ _ (by omega) z0 z1
  · exact tile _ x0 (rowInv x0) (read_scale c i arg1 harg1 arg2 harg2 arg3 harg3 arg4 harg4 arg5 harg5 arg6 harg6 arg7 harg7 arg8 harg8 arg9 harg9 x0 x1 x2 x3) x1 1536 _ _ (by omega) z0 z1
  · exact tile _ x0 (rowInv x0) (read_scale c i arg1 harg1 arg2 harg2 arg3 harg3 arg4 harg4 arg5 harg5 arg6 harg6 arg7 harg7 arg8 harg8 arg9 harg9 x0 x1 x2 x3) x1 768 _ _ (by omega) z0 z1
  · exact tile _ x0 (rowInv x0) (read_scale c i arg1 harg1 arg2 harg2 arg3 harg3 arg4 harg4 arg5 harg5 arg6 harg6 arg7 harg7 arg8 harg8 arg9 harg9 x0 x1 x2 x3) x1 0 _ _ (by omega) z0 z1

/-- The columns for the attention. -/
theorem out5_apply (y : S512x1536.Idx) :
    out0_A_5 (F := Ideal) c i arg1 harg1 arg2 harg2 arg3 harg3 arg4 harg4 arg5 harg5 arg6 harg6 arg7 harg7 arg8 harg8 arg9 harg9 x0 x1 x2 x3 y = prodT x0 (rowInv x0) x2 (y 0) (y 1) := by
  unfold out0_A_5
  rw [View.read_writes_eq_canon _ _ _ (cover0_A_5 _ _ _ _ _ _ _ _ _ _ _ _ _ _ _ _ _ _ _ _ _ _ _ _)]
  refine View.canon_apply_of_pieces (Val := Elt Ideal) (S := S512x1536) (e := .bf16) (fun y => prodT x0 (rowInv x0) x2 (y 0) (y 1)) _ ?_ y (cover0_A_5 _ _ _ _ _ _ _ _ _ _ _ _ _ _ _ _ _ _ _ _ _ _ _ _ _)
  unfold kernelRun0_A
  dsimp only
  intro p hp z
  fin_cases hp
  all_goals
    idx_vars z
    simp only [load_eq, load_all2, load_all3]
    simp only [read_copy c i arg1 harg1 arg2 harg2 arg3 harg3 arg4 harg4 arg5 harg5 arg6 harg6 arg7 harg7 arg8 harg8 arg9 harg9 x0 x1 x2 x3, read_again c i arg1 harg1 arg2 harg2 arg3 harg3 arg4 harg4 arg5 harg5 arg6 harg6 arg7 harg7 arg8 harg8 arg9 harg9 x0 x1 x2 x3]
  · exact tile _ x0 (rowInv x0) (read_scale c i arg1 harg1 arg2 harg2 arg3 harg3 arg4 harg4 arg5 harg5 arg6 harg6 arg7 harg7 arg8 harg8 arg9 harg9 x0 x1 x2 x3) x2 768 _ _ (by omega) z0 z1
  · exact tile _ x0 (rowInv x0) (read_scale c i arg1 harg1 arg2 harg2 arg3 harg3 arg4 harg4 arg5 harg5 arg6 harg6 arg7 harg7 arg8 harg8 arg9 harg9 x0 x1 x2 x3) x2 0 _ _ (by omega) z0 z1

/-- The columns that begin with the gates' logits. -/
theorem out6_apply (y : S512x128.Idx) :
    out0_A_6 (F := Ideal) c i arg1 harg1 arg2 harg2 arg3 harg3 arg4 harg4 arg5 harg5 arg6 harg6 arg7 harg7 arg8 harg8 arg9 harg9 x0 x1 x2 x3 y = prodT x0 (rowInv x0) x3 (y 0) (y 1) := by
  unfold out0_A_6
  rw [View.read_writes_eq_canon _ _ _ (cover0_A_6 _ _ _ _ _ _ _ _ _ _ _ _ _ _ _ _ _ _ _ _ _ _ _ _)]
  refine View.canon_apply_of_pieces (Val := Elt Ideal) (S := S512x128) (e := .f32) (fun y => prodT x0 (rowInv x0) x3 (y 0) (y 1)) _ ?_ y (cover0_A_6 _ _ _ _ _ _ _ _ _ _ _ _ _ _ _ _ _ _ _ _ _ _ _ _ _)
  unfold kernelRun0_A
  dsimp only
  intro p hp z
  fin_cases hp
  idx_vars z
  simp only [load_eq, load_all2, load_all3]
  rw [read_again c i arg1 harg1 arg2 harg2 arg3 harg3 arg4 harg4 arg5 harg5 arg6 harg6 arg7 harg7 arg8 harg8 arg9 harg9 x0 x1 x2 x3]
  refine (pay3_apply _ x0 (rowInv x0) (read_scale c i arg1 harg1 arg2 harg2 arg3 harg3 arg4 harg4 arg5 harg5 arg6 harg6 arg7 harg7 arg8 harg8 arg9 harg9 x0 x1 x2 x3) x3 z0 z1).trans ?_
  exact congrArg₂ (prodT x0 (rowInv x0) x3) (Fin.ext ((Nat.zero_add _).trans (Nat.one_mul _)).symm) (Fin.ext ((Nat.zero_add _).trans (Nat.one_mul _)).symm)

/-- The copy of the stream. -/
theorem out7_apply (y : S512x2048.Idx) :
    out0_A_7 (F := Ideal) c i arg1 harg1 arg2 harg2 arg3 harg3 arg4 harg4 arg5 harg5 arg6 harg6 arg7 harg7 arg8 harg8 arg9 harg9 x0 x1 x2 x3 y = x0 y := by
  unfold out0_A_7
  rw [View.read_writes_eq_canon _ _ _ (cover0_A_7 _ _ _ _ _ _ _ _ _ _ _ _ _ _ _ _ _ _ _ _ _ _ _ _)]
  refine View.canon_apply_of_pieces (Val := Elt Ideal) (S := S512x2048) (e := .bf16) (fun y => x0 y) _ ?_ y (cover0_A_7 _ _ _ _ _ _ _ _ _ _ _ _ _ _ _ _ _ _ _ _ _ _ _ _ _)
  unfold kernelRun0_A
  exact copies c arg1 harg1 x0

/-- The rows' scales. -/
theorem out8_apply (y : S512x128.Idx) :
    out0_A_8 (F := Ideal) c i arg1 harg1 arg2 harg2 arg3 harg3 arg4 harg4 arg5 harg5 arg6 harg6 arg7 harg7 arg8 harg8 arg9 harg9 x0 x1 x2 x3 y = rowInv x0 (y 0) := by
  unfold out0_A_8
  rw [View.read_writes_eq_canon _ _ _ (cover0_A_8 _ _ _ _ _ _ _ _ _ _ _ _ _ _ _ _ _ _ _ _ _ _ _ _)]
  refine View.canon_apply_of_pieces (Val := Elt Ideal) (S := S512x128) (e := .f32) (fun y => rowInv x0 (y 0)) _ ?_ y (cover0_A_8 _ _ _ _ _ _ _ _ _ _ _ _ _ _ _ _ _ _ _ _ _ _ _ _ _)
  unfold kernelRun0_A
  exact scaleds c arg1 harg1 x0

end Cert.First

end

end
-- ==== Proof.First.Kern.lean ====
/- The arrays the first layer's input projection leaves. -/
module

public import proofs.«01_k».proof.Proof.First.Tile
public import proofs.«01_k».proof.Proof.InProj.Kern
public import proofs.«01_k».proof.Proof.Gen.Kernel5Ideal.Value
public import Idealize.ShloMosaic.Lib.Pipeline.ValueKit.Point

@[expose] public section

noncomputable section

namespace Cert.First

open Idealize.ShloMosaic Idealize.ShloMosaic.TcCoe Idealize.SL.Sem
open Cert.Kernel5Ideal Cert.Kernel5Ideal.Gen
open Cert.InProj (prodT unit scaled proj proj_unit loc qkv gate wide wide_apply tail tail_apply)

variable (m : (ℓ : Loc nD τ sig) → Buf (Elt Ideal) ℓ)

/-- Where each window's block lies. -/
theorem idx : ∀ t : Fin cfg0.N,
    win0_0.index t = ![t.val, 0] ∧ win0_1.index t = ![0, 0, 0] ∧ win0_2.index t = ![0, 0, 0] ∧ win0_3.index t = ![0, 0, 12] ∧
    win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem lt_points (t : Fin cfg0.N) : t.val < 64 := lt_of_lt_of_eq t.isLt (show cfg0.N = 64 from N_0)

/-- A row of the arrays, by its block and its place there. -/
def row (n : ℕ) (hn : n < 64) (a : Fin 512) : Fin 32768 := ⟨n * 512 + a.val, by omega⟩

theorem V_wide (c : Dev nD) : V m c main_v12 = wide (m ((c.tc : Thread nD τ).loc main_arg1)) (m ((c.tc : Thread nD τ).loc main_arg2)) := by
  blk_simp [V]
  rfl

theorem V_tail (c : Dev nD) : V m c main_v16 = tail (m ((c.tc : Thread nD τ).loc main_arg1)) (m ((c.tc : Thread nD τ).loc main_arg2)) := by
  blk_simp [V]
  rfl

/-- A block's rows of the stream. -/
theorem rows_eq (c : Dev nD) (t : Fin cfg0.N) (a : Fin 512) (d : Fin 2048) :
    iblk m c 0 t (ix2 a d) = m ((c.tc : Thread nD τ).loc main_arg0) (ix2 (row t.val (lt_points t) a) d) := by
  obtain ⟨i0, i1, i2, i3, i4, i5, i6, i7, i8⟩ := idx t
  unfold row
  blk_point [iblk, V, i0]

theorem tail_eq (c : Dev nD) (t : Fin cfg0.N) (d : Fin 2048) (k : Fin 3072) :
    iblk m c 1 t (ix3 0 d k) = scaled 0 (m ((c.tc : Thread nD τ).loc main_arg1)) (m ((c.tc : Thread nD τ).loc main_arg2)) d ⟨1540 + k.val, by omega⟩ := by
  obtain ⟨i0, i1, i2, i3, i4, i5, i6, i7, i8⟩ := idx t
  refine (congrFun (V_tail m c) ((win0_1.blk t).view.emb (ix3 0 d k))).trans ?_
  refine Eq.trans (congrArg _ ?_) (tail_apply _ _ 0 d k)
  blk_point [i1]

theorem wide_eq (c : Dev nD) (t : Fin cfg0.N) (d : Fin 2048) (k : Fin 1536) :
    X0_2 m c t (ix3 0 d k) = scaled 0 (m ((c.tc : Thread nD τ).loc main_arg1)) (m ((c.tc : Thread nD τ).loc main_arg2)) d ⟨k.val, by omega⟩ * unit k.val := by
  obtain ⟨i0, i1, i2, i3, i4, i5, i6, i7, i8⟩ := idx t
  unfold X0_2 Pipeline.Window.fill
  rw [dif_pos (moved0_2 t _)]
  refine (congrFun (V_wide m c) ((win0_2.blk t).view.emb _)).trans ?_
  refine Eq.trans (congrArg _ ?_) (wide_apply _ _ 0 d ⟨k.val, by omega⟩)
  blk_point [i2]

theorem gate_eq (c : Dev nD) (t : Fin cfg0.N) (d : Fin 2048) (k : Fin 128) :
    iblk m c 3 t (ix3 0 d k) = scaled 0 (m ((c.tc : Thread nD τ).loc main_arg1)) (m ((c.tc : Thread nD τ).loc main_arg2)) d ⟨1536 + k.val, by omega⟩ * unit (1536 + k.val) := by
  obtain ⟨i0, i1, i2, i3, i4, i5, i6, i7, i8⟩ := idx t
  refine (congrFun (V_wide m c) ((win0_3.blk t).view.emb (ix3 0 d k))).trans ?_
  refine Eq.trans (congrArg _ ?_) (wide_apply _ _ 0 d ⟨1536 + k.val, by omega⟩)
  blk_point [i3]

section
variable (c : Dev nD) (t : Fin cfg0.N) (a : Fin 512)

/-- The row scales of a block. -/
theorem rowInv_eq : rowInv (iblk m c 0 t) a = inv fun d => m ((c.tc : Thread nD τ).loc main_arg0) (ix2 (row t.val (lt_points t) a) d) :=
  congrArg inv (funext fun d => rows_eq m c t a d)

theorem locT_eq (k : Fin 3072) : prodT (iblk m c 0 t) (rowInv (iblk m c 0 t)) (iblk m c 1 t) a k =
    loc 0 (m ((c.tc : Thread nD τ).loc main_arg0)) (m ((c.tc : Thread nD τ).loc main_arg1)) (m ((c.tc : Thread nD τ).loc main_arg2)) (row t.val (lt_points t) a) k := by
  unfold prodT loc proj
  rw [rowInv_eq]
  refine congrArg (· * _) (Finset.sum_congr rfl fun d _ => ?_)
  rw [rows_eq, tail_eq]

theorem qkvT_eq (k : Fin 1536) : prodT (iblk m c 0 t) (rowInv (iblk m c 0 t)) (X0_2 m c t) a k =
    qkv 0 (m ((c.tc : Thread nD τ).loc main_arg0)) (m ((c.tc : Thread nD τ).loc main_arg1)) (m ((c.tc : Thread nD τ).loc main_arg2)) (row t.val (lt_points t) a) k := by
  unfold prodT qkv
  rw [rowInv_eq, ← proj_unit]
  refine congrArg (· * _) (Finset.sum_congr rfl fun d _ => ?_)
  rw [rows_eq, wide_eq]

theorem gateT_eq (k : Fin 128) : prodT (iblk m c 0 t) (rowInv (iblk m c 0 t)) (iblk m c 3 t) a k =
    gate 0 (m ((c.tc : Thread nD τ).loc main_arg0)) (m ((c.tc : Thread nD τ).loc main_arg1)) (m ((c.tc : Thread nD τ).loc main_arg2)) (row t.val (lt_points t) a) k := by
  unfold prodT gate proj
  rw [rowInv_eq]
  refine congrArg (· * _) (Finset.sum_congr rfl fun d _ => ?_)
  rw [rows_eq, gate_eq, show unit (1536 + k.val) = 1 from if_neg (by omega), mul_one]

end

/-- The array the local mixers' columns are left in. -/
theorem arr4_eq (c : Dev nD) :
    (dats m 0 c).arrAt 4 cfg0.N = fun i : S32768x3072.Idx => loc 0 (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  blk_simp
  rw [after0_4]
  unfold outsAt0
  dsimp only
  rw [out4_apply]
  refine (locT_eq m c t (y 0) (y 1)).trans ?_
  obtain ⟨i0, i1, i2, i3, i4, i5, i6, i7, i8⟩ := idx t
  exact congrArg₂ (loc _ _ _ _) (Fin.ext (by blk_simp [i4, row])) (Fin.ext (by blk_simp [i4]))

/-- The array the attention's columns are left in. -/
theorem arr5_eq (c : Dev nD) :
    (dats m 0 c).arrAt 5 cfg0.N = fun i : S32768x1536.Idx => qkv 0 (m ((c.tc : Thread nD τ).loc main_arg0)) (m ((c.tc : Thread nD τ).loc main_arg1)) (m ((c.tc : Thread nD τ).loc main_arg2)) (i 0) (i 1) := by
  refine (dats m 0 c).arrAt_eq_of_covers 5 _ (by decide +kernel) fun t hf y => ?_
  blk_simp
  rw [after0_5]
  unfold outsAt0
  dsimp only
  rw [out5_apply]
  refine (qkvT_eq m c t (y 0) (y 1)).trans ?_
  obtain ⟨i0, i1, i2, i3, i4, i5, i6, i7, i8⟩ := idx t
  exact congrArg₂ (qkv _ _ _ _) (Fin.ext (by blk_simp [i5, row])) (Fin.ext (by blk_simp [i5]))

/-- The array the gates' columns are left in. -/
theorem arr6_eq (c : Dev nD) :
    (dats m 0 c).arrAt 6 cfg0.N = fun i : S32768x128.Idx => gate 0 (m ((c.tc : Thread nD τ).loc main_arg0)) (m ((c.tc : Thread nD τ).loc main_arg1)) (m ((c.tc : Thread nD τ).loc main_arg2)) (i 0) (i 1) := by
  refine (dats m 0 c).arrAt_eq_of_covers 6 _ (by decide +kernel) fun t hf y => ?_
  blk_simp
  rw [after0_6]
  unfold outsAt0
  dsimp only
  rw [out6_apply]
  refine (gateT_eq m c t (y 0) (y 1)).trans ?_
  obtain ⟨i0, i1, i2, i3, i4, i5, i6, i7, i8⟩ := idx t
  exact congrArg₂ (gate _ _ _ _) (Fin.ext (by blk_simp [i6, row])) (Fin.ext (by blk_simp [i6]))

/-- The copy of the stream. -/
theorem arr7_eq (c : Dev nD) :
    (dats m 0 c).arrAt 7 cfg0.N = m ((c.tc : Thread nD τ).loc main_arg0) := by
  refine (dats m 0 c).arrAt_eq_of_covers 7 _ (by decide +kernel) fun t hf y => ?_
  blk_simp
  rw [after0_7]
  unfold outsAt0
  dsimp only
  rw [out7_apply]
  idx_vars y
  refine (rows_eq m c t y0 y1).trans ?_
  obtain ⟨i0, i1, i2, i3, i4, i5, i6, i7, i8⟩ := idx t
  unfold row
  blk_point [i7]

/-- The scales of its rows. -/
theorem arr8_eq (c : Dev nD) :
    (dats m 0 c).arrAt 8 cfg0.N = fun i : S32768x128.Idx => inv fun d => m ((c.tc : Thread nD τ).loc main_arg0) (ix2 (i 0) d) := by
  refine (dats m 0 c).arrAt_eq_of_covers 8 _ (by decide +kernel) fun t hf y => ?_
  blk_simp
  rw [after0_8]
  unfold outsAt0
  dsimp only
  rw [out8_apply]
  refine (rowInv_eq m c t (y 0)).trans ?_
  obtain ⟨i0, i1, i2, i3, i4, i5, i6, i7, i8⟩ := idx t
  exact congrArg inv (funext fun d => congrArg (fun r => m ((c.tc : Thread nD τ).loc main_arg0) (ix2 r d)) (Fin.ext (by blk_simp [i8, row])))

end Cert.First

end

end
-- ==== Proof.First.Ref.lean ====
/- The first layer's reference, entry by entry. -/
module

public import proofs.«01_k».proof.Proof.First.Kern
public import proofs.«01_k».proof.Proof.Gen.Reference5Ideal.Read
public import Idealize.ShloMosaic.Lib.Pointwise

@[expose] public section

noncomputable section

namespace Cert.First

open Idealize.ShloMosaic Idealize.ShloMosaic.TcCoe Idealize.SL.Sem
open Cert.InProj (unit scaled proj loc qkv gate)
open Cert.Reference5Ideal Cert.Reference5Ideal.Gen Cert.Reference5Ideal.Read

variable (a0 : FVec Ideal S32768x2048 .f32) (a1 : FVec Ideal S4x2048 .f32) (a2 : FVec Ideal S4x2048x4612 .f32)

theorem refScale (r : Fin 32768) (l : Fin 1) : val_main_v19 (F := Ideal) a0 (ix2 r l) = inv fun d => a0 (ix2 r d) := by
  pointwise [val_main_v19, val_main_v18, val_main_v17, val_main_v16, val_main_v15, val_main_v14, val_main_v13, val_main_v12, val_main_cst_2, val_main_cst_3, val_main_cst_4]
  rfl

theorem refNorm (r : Fin 32768) (d : Fin 2048) :
    val_main_v24 (F := Ideal) a0 a1 (ix2 r d) = a0 (ix2 r d) * (inv fun d => a0 (ix2 r d)) * a1 (ix2 0 d) := by
  pointwise [val_main_v24, val_main_v23, val_main_v22, val_main_v21, val_main_v20, val_main_v11, val_main_v10]
  simp only [refScale]

/-- The row's scale comes out of the product. -/
theorem refProj (r : Fin 32768) (k : Fin 4612) : val_main_v27 (F := Ideal) a0 a1 a2 (ix2 r k) = proj 0 a0 a1 a2 r k := by
  pointwise [val_main_v27, val_main_v26, val_main_v25]
  simp only [refNorm]
  obtain ⟨h0, h1⟩ := Cert.Mlp.inv_real fun d => a0 (ix2 r d)
  unfold proj
  rw [mul_comm, ← Cert.Mlp.scale_sum h0 h1]
  refine Finset.sum_congr rfl fun d _ => ?_
  unfold scaled
  ac_rfl

theorem refLoc (r : Fin 32768) (k : Fin 3072) : val_main_v34 (F := Ideal) a0 a1 a2 (ix2 r k) = loc 0 a0 a1 a2 r k := by
  pointwise [val_main_v34, val_main_v33]
  exact refProj a0 a1 a2 r ⟨1540 + k.val, by omega⟩

theorem refGate (r : Fin 32768) (k : Fin 128) : val_main_v36 (F := Ideal) a0 a1 a2 (ix2 r k) = gate 0 a0 a1 a2 r k := by
  pointwise [val_main_v36]
  exact refProj a0 a1 a2 r ⟨1536 + k.val, by omega⟩

theorem refQkv (r : Fin 32768) (k : Fin 1536) : val_main_v35 (F := Ideal) a0 a1 a2 (ix2 r k) = qkv 0 a0 a1 a2 r k := by
  pointwise [val_main_v35, val_main_v32, val_main_v31, val_main_v30, val_main_v29, val_main_v28, val_main_cst_5]
  simp only [refProj]
  unfold qkv unit
  by_cases h : k.val < 512
  · rw [dif_pos h, if_pos h]
  · rw [dif_neg h, if_neg h, mul_one]
    exact congrArg (proj 0 a0 a1 a2 r) (Fin.ext (by dsimp only; omega))

/-- The copy of the stream. -/
theorem refCopy (r : Fin 32768) (d : Fin 2048) : val_main_v7 (F := Ideal) a0 (ix2 r d) = a0 (ix2 r d) := by
  pointwise [val_main_v7]

/-- The scales of its rows. -/
theorem refInv (r : Fin 32768) (l : Fin 128) : val_main_v9 (F := Ideal) a0 (ix2 r l) = inv fun d => a0 (ix2 r d) := by
  pointwise [val_main_v9, val_main_v8, val_main_v6, val_main_v5, val_main_v4, val_main_v3, val_main_v2, val_main_v1, val_main_v0, val_main_cst, val_main_cst_0, val_main_cst_1]
  rfl

end Cert.First

end

end
-- ==== Proof.First.Same.lean ====
/- The claims about the first layer's input projection. -/
module

public import proofs.«01_k».proof.Defs
public import proofs.«01_k».proof.Proof.First.Ref
public import proofs.«01_k».proof.Proof.Gen.Kernel5Ideal
public import proofs.«01_k».proof.Proof.Gen.Reference5Ideal
public import proofs.«01_k».proof.Proof.Gen.Reference5Ideal.Run
public import Idealize.ShloMosaic.Adequacy
public import Idealize.ShloMosaic.Lib.Quiescent

@[expose] public section

noncomputable section

namespace Cert.First

open Idealize.ShloMosaic Idealize.ShloMosaic.TcCoe Idealize.SL.Sem
open Cert.InProj (loc qkv gate)

theorem quiescent : Cert.quiescent_Reference5Ideal := fun m g _ =>
  (θ_run _ _ _).mono (fun _ h => ⟨fun c => (h c).2.2.2.2.2, sem_eq_zero_of_no_sems rfl _⟩) (Cert.Reference5Ideal.Value.run m g)

theorem algebraic : Cert.algebraic_Kernel5Ideal_Reference5Ideal := by
  intro m g m' g' _ ha
  let x := fun c : Dev Cert.Kernel5Ideal.nD => m ((c.tc : Thread _ _).loc Cert.Kernel5Ideal.main_arg0)
  let n := fun c : Dev Cert.Kernel5Ideal.nD => m ((c.tc : Thread _ _).loc Cert.Kernel5Ideal.main_arg1)
  let w := fun c : Dev Cert.Kernel5Ideal.nD => m ((c.tc : Thread _ _).loc Cert.Kernel5Ideal.main_arg2)
  refine ⟨fun c i => loc 0 (x c) (n c) (w c) (i 0) (i 1), fun c i => qkv 0 (x c) (n c) (w c) (i 0) (i 1), fun c i => gate 0 (x c) (n c) (w c) (i 0) (i 1), x, fun c i => inv fun d => x c (ix2 (i 0) d), ?_, ?_⟩
  · refine (θ_run _ _ _).mono (fun r h c => ?_) (Cert.Kernel5Ideal.Value.run_blocks m g)
    obtain ⟨e0, e1, e2, e3, e4, k⟩ := h c
    exact ⟨e0.trans (arr4_eq m c), e1.trans (arr5_eq m c), e2.trans (arr6_eq m c), e3.trans (arr7_eq m c), e4.trans (arr8_eq m c), k⟩
  · refine (θ_run _ _ _).mono (fun r h c => ?_) (Cert.Reference5Ideal.Value.run m' g')
    obtain ⟨e0, e1, e2, e3, e4, k⟩ := h c
    obtain ⟨a0, a1, a2⟩ := ha c
    refine ⟨e0.trans ?_, e1.trans ?_, e2.trans ?_, e3.trans ?_, e4.trans ?_, k⟩
    · rw [Cert.Reference5Ideal.Read.val_main_v34_eq, a0, a1, a2]
      funext i
      idx_vars i
      exact refLoc _ _ _ _ _
    · rw [Cert.Reference5Ideal.Read.val_main_v35_eq, a0, a1, a2]
      funext i
      idx_vars i
      exact refQkv _ _ _ _ _
    · rw [Cert.Reference5Ideal.Read.val_main_v36_eq, a0, a1, a2]
      funext i
      idx_vars i
      exact refGate _ _ _ _ _
    · rw [Cert.Reference5Ideal.Read.val_main_v7_eq, a0]
      funext i
      idx_vars i
      exact refCopy _ _ _
    · rw [Cert.Reference5Ideal.Read.val_main_v9_eq, a0]
      funext i
      idx_vars i
      exact refInv _ _ _

end Cert.First

end

end
-- ==== Proof.OutProj.Tile.lean ====
module

public import proofs.«01_k».proof.Proof.Inv
public import proofs.«01_k».proof.Proof.Gen.Kernel3Ideal.Frame
public import Idealize.ShloMosaic.Lib.Pipeline.Value

@[expose] public section

noncomputable section

namespace Cert.OutProj

open Idealize.ShloMosaic Idealize.ShloMosaic.TcCoe Idealize.SL.Sem
open Cert.Kernel3Ideal Cert.Kernel3Ideal.Gen

variable (x0 : FVec Ideal S512x512 .bf16) (x1 : FVec Ideal S512x1536 .bf16) (x2 : FVec Ideal S1x2048x2048 .bf16) (x3 : FVec Ideal S512x2048 .f32) (x4 : FVec Ideal S1x2048 .f32)

/-- One row of a block's product: the attention's columns with the matrix's first 512 rows, and the local columns with the others. -/
def projT (a : Fin 512) (c : Fin 2048) : EReal :=
  ∑ e : Fin 512, x0 (ix2 a e) * x2 (ix3 0 ⟨e.val, by omega⟩ c) + ∑ e : Fin 1536, x1 (ix2 a e) * x2 (ix3 0 ⟨512 + e.val, by omega⟩ c)

/-- The block's new stream: the old one plus the normalised product times the gain. -/
def newT (a : Fin 512) (c : Fin 2048) : EReal :=
  x3 (ix2 a c) + projT x0 x1 x2 a c * inv (projT x0 x1 x2 a) * x4 (ix2 0 c)

/-- The stream block the kernel writes. -/
theorem out5_apply (y : S512x2048.Idx) : out0_5 (F := Ideal) x0 x1 x2 x3 x4 y = newT x0 x1 x2 x3 x4 (y 0) (y 1) := by
  unfold_out out0_5
  refine View.canon_apply_of_pieces (Val := Elt Ideal) (S := S512x2048) (e := .f32) (fun y => newT x0 x1 x2 x3 x4 (y 0) (y 1)) _ ?_ y (cover0_5 _ _ _ _ y)
  intro p hp z
  fin_cases hp
  all_goals
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, r0_0, r0_1, r0_2, r0_3, r0_4, r0_5, r0_6, r0_7, r0_8, r0_9, r0_10, r0_11, r0_12, r0_13, r0_14, r0_15, r0_16, r0_17, r0_18]
    simp only [dite_eq_ite, ite_self]
    exact congrArg₂ (newT x0 x1 x2 x3 x4) (Fin.ext (by first | exact (congrArg (_ + ·) (Nat.one_mul _)).symm | exact ((Nat.zero_add _).trans (Nat.one_mul _)).symm)) (Fin.ext (by first | exact (congrArg (_ + ·) (Nat.one_mul _)).symm | exact ((Nat.zero_add _).trans (Nat.one_mul _)).symm))

/-- Its copy in the narrow type, which holds the same numbers. -/
theorem out6_apply (y : S512x2048.Idx) : out0_6 (F := Ideal) x0 x1 x2 x3 x4 y = newT x0 x1 x2 x3 x4 (y 0) (y 1) := by
  unfold_out out0_6
  refine View.canon_apply_of_pieces (Val := Elt Ideal) (S := S512x2048) (e := .bf16) (fun y => newT x0 x1 x2 x3 x4 (y 0) (y 1)) _ ?_ y (cover0_6 _ _ _ _ y)
  intro p hp z
  fin_cases hp
  all_goals
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, r0_0, r0_1, r0_2, r0_3, r0_4, r0_5, r0_6, r0_7, r0_8, r0_9, r0_10, r0_11, r0_12, r0_13, r0_14, r0_15, r0_16, r0_17, r0_18]
    simp only [dite_eq_ite, ite_self]
    exact congrArg₂ (newT x0 x1 x2 x3 x4) (Fin.ext (by first | exact (congrArg (_ + ·) (Nat.one_mul _)).symm | exact ((Nat.zero_add _).trans (Nat.one_mul _)).symm)) (Fin.ext (by first | exact (congrArg (_ + ·) (Nat.one_mul _)).symm | exact ((Nat.zero_add _).trans (Nat.one_mul _)).symm))

/-- The inverse root mean squares it writes beside it, the same on every lane. -/
theorem out7_apply (y : S512x128.Idx) : out0_7 (F := Ideal) x0 x1 x2 x3 x4 y = inv (newT x0 x1 x2 x3 x4 (y 0)) := by
  unfold_out out0_7
  refine View.canon_apply_of_pieces (Val := Elt Ideal) (S := S512x128) (e := .f32) (fun y => inv (newT x0 x1 x2 x3 x4 (y 0))) _ ?_ y (cover0_7 _ _ _ _ y)
  intro p hp z
  fin_cases hp
  all_goals
    idx_vars z
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, r0_0, r0_1, r0_2, r0_3, r0_4, r0_5, r0_6, r0_7, r0_8, r0_9, r0_10, r0_11, r0_12, r0_13, r0_14, r0_15, r0_16, r0_17, r0_18]
    simp only [dite_eq_ite, ite_self]
    exact congrArg (fun a => inv (newT x0 x1 x2 x3 x4 a)) (Fin.ext (by first | exact (congrArg (_ + ·) (Nat.one_mul _)).symm | exact ((Nat.zero_add _).trans (Nat.one_mul _)).symm))

end Cert.OutProj

end

end
-- ==== Proof.OutProj.Kern.lean ====
/- The arrays the output projection leaves. -/
module

public import proofs.«01_k».proof.Proof.OutProj.Tile
public import proofs.«01_k».proof.Proof.Gen.Kernel3Ideal.Value
public import Idealize.ShloMosaic.Lib.Pipeline.ValueKit.Point

@[expose] public section

noncomputable section

namespace Cert.OutProj

open Idealize.ShloMosaic Idealize.ShloMosaic.TcCoe Idealize.SL.Sem
open Cert.Kernel3Ideal Cert.Kernel3Ideal.Gen

section
variable (a0 : FVec Ideal S32768x512 .bf16) (a1 : FVec Ideal S32768x1536 .bf16) (a2 : FVec Ideal S32768x2048 .f32)
  (a3 : FVec Ideal S4x2048x2048 .f32) (a4 : FVec Ideal S4x2048 .f32)

/-- The projection of row `r`: the attention's columns and the local ones, each with its rows of the last layer's matrix. -/
def proj (r : Fin 32768) (c : Fin 2048) : EReal :=
  ∑ e : Fin 512, a0 (ix2 r e) * a3 (ix3 3 ⟨e.val, by omega⟩ c) + ∑ e : Fin 1536, a1 (ix2 r e) * a3 (ix3 3 ⟨512 + e.val, by omega⟩ c)

/-- The new stream. -/
def new (r : Fin 32768) (c : Fin 2048) : EReal :=
  a2 (ix2 r c) + proj a0 a1 a3 r c * inv (proj a0 a1 a3 r) * a4 (ix2 3 c)

end

variable (m : (ℓ : Loc nD τ sig) → Buf (Elt Ideal) ℓ)

/-- Where each window's block lies. -/
theorem idx : ∀ t : Fin cfg0.N,
    win0_0.index t = ![t.val, 0] ∧ win0_1.index t = ![t.val, 0] ∧ win0_2.index t = ![3, 0, 0] ∧ win0_3.index t = ![t.val, 0] ∧
    win0_4.index t = ![0, 0] ∧ win0_5.index t = ![t.val, 0] ∧ win0_6.index t = ![t.val, 0] ∧ win0_7.index t = ![t.val, 0] :=
  (by decide +kernel : ∀ t : Fin grid0.N, _)

theorem lt_points (t : Fin cfg0.N) : t.val < 64 := t.isLt

/-- A block's product is the projection of its rows. -/
theorem projT_eq (c : Dev nD) (t : Fin cfg0.N) (a : Fin 512) :
    projT (iblk m c 0 t) (iblk m c 1 t) (iblk m c 2 t) a =
      proj (m ((c.tc : Thread nD τ).loc main_arg0)) (m ((c.tc : Thread nD τ).loc main_arg1)) (m ((c.tc : Thread nD τ).loc main_arg3))
        ⟨t.val * 512 + a.val, by have := lt_points t; omega⟩ := by
  obtain ⟨i0, i1, i2, i3, i4, i5, i6, i7⟩ := idx t
  funext k
  unfold projT proj
  congr 1
  · refine Finset.sum_congr rfl fun e _ => ?_
    congr 1
    · blk_point [iblk, V, i0]
    · blk_point [iblk, V, i2]
  · refine Finset.sum_congr rfl fun e _ => ?_
    congr 1
    · blk_point [iblk, V, i1]
    · blk_point [iblk, V, i2]

theorem newT_eq (c : Dev nD) (t : Fin cfg0.N) (a : Fin 512) :
    newT (iblk m c 0 t) (iblk m c 1 t) (iblk m c 2 t) (iblk m c 3 t) (iblk m c 4 t) a =
      new (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        ⟨t.val * 512 + a.val, by have := lt_points t; omega⟩ := by
  obtain ⟨i0, i1, i2, i3, i4, i5, i6, i7⟩ := idx t
  funext k
  unfold newT new
  rw [projT_eq]
  congr 1
  · blk_point [iblk, V, i3]
  · congr 1
    blk_point [iblk, V, i4]

/-- The array the stream is left in. -/
theorem arr5_eq (c : Dev nD) :
    (dats m 0 c).arrAt 5 cfg0.N = fun i : S32768x2048.Idx => new (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) := by
  refine (dats m 0 c).arrAt_eq_of_covers 5 _ (by decide +kernel) fun t hf y => ?_
  blk_simp
  rw [after0_5, out5_apply]
  refine (congrFun (newT_eq m c t (y 0)) (y 1)).trans ?_
  obtain ⟨i0, i1, i2, i3, i4, i5, i6, i7⟩ := idx t
  exact congrArg₂ (new _ _ _ _ _) (Fin.ext (by blk_simp [i5])) (Fin.ext (by blk_simp [i5]))

/-- Its copy in the narrow type. -/
theorem arr6_eq (c : Dev nD) :
    (dats m 0 c).arrAt 6 cfg0.N = fun i : S32768x2048.Idx => new (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) := by
  refine (dats m 0 c).arrAt_eq_of_covers 6 _ (by decide +kernel) fun t hf y => ?_
  blk_simp
  rw [after0_6, out6_apply]
  refine (congrFun (newT_eq m c t (y 0)) (y 1)).trans ?_
  obtain ⟨i0, i1, i2, i3, i4, i5, i6, i7⟩ := idx t
  exact congrArg₂ (new _ _ _ _ _) (Fin.ext (by blk_simp [i6])) (Fin.ext (by blk_simp [i6]))

/-- The array the inverse root mean squares are left in. -/
theorem arr7_eq (c : Dev nD) :
    (dats m 0 c).arrAt 7 cfg0.N = fun i : S32768x128.Idx => inv (new (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0)) := by
  refine (dats m 0 c).arrAt_eq_of_covers 7 _ (by decide +kernel) fun t hf y => ?_
  blk_simp
  rw [after0_7, out7_apply]
  refine (congrArg inv (newT_eq m c t (y 0))).trans ?_
  obtain ⟨i0, i1, i2, i3, i4, i5, i6, i7⟩ := idx t
  exact congrArg (fun a => inv (new _ _ _ _ _ a)) (Fin.ext (by blk_simp [i7]))

end Cert.OutProj

end

end
-- ==== Proof.OutProj.Ref.lean ====
/- The output projection's reference, entry by entry. -/
module

public import proofs.«01_k».proof.Proof.OutProj.Kern
public import proofs.«01_k».proof.Proof.Gen.Reference3Ideal.Read
public import Idealize.ShloMosaic.Lib.Pointwise

@[expose] public section

noncomputable section

namespace Cert.OutProj

open Idealize.ShloMosaic Idealize.ShloMosaic.TcCoe Idealize.SL.Sem
open Cert.Reference3Ideal Cert.Reference3Ideal.Gen Cert.Reference3Ideal.Read

variable (a0 : FVec Ideal S32768x512 .bf16) (a1 : FVec Ideal S32768x1536 .bf16) (a2 : FVec Ideal S32768x2048 .f32)
  (a3 : FVec Ideal S4x2048x2048 .f32) (a4 : FVec Ideal S4x2048 .f32)

/-- One product with the columns side by side is the sum of the two products. -/
theorem refProj (r : Fin 32768) (c : Fin 2048) : val_main_v5 (F := Ideal) a0 a1 a3 (ix2 r c) = proj a0 a1 a3 r c := by
  pointwise [val_main_v5, val_main_v4, val_main_v3, val_main_v2, val_main_v1, val_main_v0]
  rfl

theorem refNew (r : Fin 32768) (c : Fin 2048) : val_main_v21 (F := Ideal) a0 a1 a2 a3 a4 (ix2 r c) = new a0 a1 a2 a3 a4 r c := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1]
  simp only [refProj]
  rfl

theorem refNewB (r : Fin 32768) (c : Fin 2048) : val_main_v29 (F := Ideal) a0 a1 a2 a3 a4 (ix2 r c) = new a0 a1 a2 a3 a4 r c := by
  pointwise [val_main_v29]
  exact refNew a0 a1 a2 a3 a4 r c

theorem refInv (r : Fin 32768) (l : Fin 128) : val_main_v31 (F := Ideal) a0 a1 a2 a3 a4 (ix2 r l) = inv (new a0 a1 a2 a3 a4 r) := by
  pointwise [val_main_v31, val_main_v30, val_main_v28, val_main_v27, val_main_v26, val_main_v25, val_main_v24, val_main_v23, val_main_v22, val_main_cst_2, val_main_cst_3, val_main_cst_4]
  simp only [refNew]
  rfl

end Cert.OutProj

end

end
-- ==== Proof.OutProj.Same.lean ====
/- The claims about the output projection. -/
module

public import proofs.«01_k».proof.Defs
public import proofs.«01_k».proof.Proof.OutProj.Ref
public import proofs.«01_k».proof.Proof.Gen.Kernel3Ideal
public import proofs.«01_k».proof.Proof.Gen.Reference3Ideal
public import proofs.«01_k».proof.Proof.Gen.Reference3Ideal.Run
public import Idealize.ShloMosaic.Adequacy
public import Idealize.ShloMosaic.Lib.Quiescent

@[expose] public section

noncomputable section

namespace Cert.OutProj

open Idealize.ShloMosaic Idealize.ShloMosaic.TcCoe Idealize.SL.Sem

theorem quiescent : Cert.quiescent_Reference3Ideal := fun m g _ =>
  (θ_run _ _ _).mono (fun _ h => ⟨fun c => (h c).2.2.2, sem_eq_zero_of_no_sems rfl _⟩) (Cert.Reference3Ideal.Value.run m g)

/-- The new stream, of the launch's arguments. -/
def newM (m : (ℓ : Loc Cert.Kernel3Ideal.nD Cert.Kernel3Ideal.τ Cert.Kernel3Ideal.sig) → Buf (Elt Ideal) ℓ) (c : Dev Cert.Kernel3Ideal.nD) :
    Fin 32768 → Fin 2048 → EReal :=
  new (m ((c.tc : Thread _ _).loc Cert.Kernel3Ideal.main_arg0)) (m ((c.tc : Thread _ _).loc Cert.Kernel3Ideal.main_arg1))
    (m ((c.tc : Thread _ _).loc Cert.Kernel3Ideal.main_arg2)) (m ((c.tc : Thread _ _).loc Cert.Kernel3Ideal.main_arg3))
    (m ((c.tc : Thread _ _).loc Cert.Kernel3Ideal.main_arg4))

theorem algebraic : Cert.algebraic_Kernel3Ideal_Reference3Ideal := by
  intro m g m' g' _ ha
  refine ⟨fun c i => newM m c (i 0) (i 1), fun c i => newM m c (i 0) (i 1), fun c i => inv (newM m c (i 0)), ?_, ?_⟩
  · refine (θ_run _ _ _).mono (fun r h c => ?_) (Cert.Kernel3Ideal.Value.run_blocks m g)
    obtain ⟨e0, e1, e2, k⟩ := h c
    exact ⟨e0.trans (arr5_eq m c), e1.trans (arr6_eq m c), e2.trans (arr7_eq m c), k⟩
  · refine (θ_run _ _ _).mono (fun r h c => ?_) (Cert.Reference3Ideal.Value.run m' g')
    obtain ⟨e0, e1, e2, k⟩ := h c
    obtain ⟨a0, a1, a2, a3, a4⟩ := ha c
    refine ⟨e0.trans ?_, e1.trans ?_, e2.trans ?_, k⟩
    · rw [Cert.Reference3Ideal.Read.val_main_v21_eq, a0, a1, a2, a3, a4]
      funext i
      idx_vars i
      exact refNew _ _ _ _ _ _ _
    · rw [Cert.Reference3Ideal.Read.val_main_v29_eq, a0, a1, a2, a3, a4]
      funext i
      idx_vars i
      exact refNewB _ _ _ _ _ _ _
    · rw [Cert.Reference3Ideal.Read.val_main_v31_eq, a0, a1, a2, a3, a4]
      funext i
      idx_vars i
      exact refInv _ _ _ _ _ _ _

end Cert.OutProj

end

end
-- ==== Proof.Mlp.Out.lean ====
/- The blocks the feed-forward kernel leaves at a grid point, by the chunk it works on. -/
module

public import proofs.«01_k».proof.Proof.Mlp.Tile
public import proofs.«01_k».proof.Proof.Load

@[expose] public section

noncomputable section

namespace Cert.Mlp

open Idealize.ShloMosaic Idealize.ShloMosaic.TcCoe Idealize.SL.Sem
open Cert.Kernel2Ideal Cert.Kernel2Ideal.Gen

variable (c : Dev nD) (i : grid0.Coords) (arg2 : Memref sig .tc .vmem S512x2048 .f32) (harg2 : arg2.IsWhole) (arg3 : Memref sig .tc .vmem S512x2048 .bf16) (harg3 : arg3.IsWhole)
  (arg4 : Memref sig .tc .vmem S512x128 .f32) (harg4 : arg4.IsWhole) (arg5 : Memref sig .tc .vmem S1x2048x1024 .bf16) (harg5 : arg5.IsWhole)
  (arg6 : Memref sig .tc .vmem S1x1024x2048 .bf16) (harg6 : arg6.IsWhole) (arg7 : Memref sig .tc .vmem S1x2048 .f32) (harg7 : arg7.IsWhole)
  (arg8 : Memref sig .tc .vmem S512x2048 .f32) (harg8 : arg8.IsWhole) (arg9 : Memref sig .tc .vmem S512x2048 .bf16) (harg9 : arg9.IsWhole)
  (arg10 : Memref sig .tc .vmem S512x128 .f32) (harg10 : arg10.IsWhole)
  (x0 : FVec Ideal S512x2048 .f32) (x1 : FVec Ideal S512x2048 .bf16) (x2 : FVec Ideal S512x128 .f32) (x3 : FVec Ideal S1x2048x1024 .bf16)
  (x4 : FVec Ideal S1x1024x2048 .bf16) (x5 : FVec Ideal S1x2048 .f32) (xo : FVec Ideal S512x2048 .f32)

/-- At a row block's first chunk: the chunk's share. -/
theorem outA_apply (hc0 : cond0_0 i) (hc1 : ¬cond0_1 i) (hc2 : ¬cond0_2 i) (a : Fin 512) (k : Fin 2048) :
    out0_A_6 (F := Ideal) c i arg2 harg2 arg3 harg3 arg4 harg4 arg5 harg5 arg6 harg6 arg7 harg7 arg8 harg8 arg9 harg9 arg10 harg10 hc0 hc1 hc2 x0 x1 x2 x3 x4 x5 (ix2 a k) = partT x1 x3 x4 a k := by
  unfold out0_A_6
  rw [View.read_writes_eq_canon _ _ _ (cover0_A_6 _ _ _ _ _ _ _ _ _ _ _ _ _ _ _ _ _ _ _ _ _ _ _ _ _ _ _ _ _)]
  refine View.canon_apply_of_pieces (Val := Elt Ideal) (S := S512x2048) (e := .f32) (fun y => partT x1 x3 x4 (y 0) (y 1)) _ ?_ (ix2 a k) (cover0_A_6 _ _ _ _ _ _ _ _ _ _ _ _ _ _ _ _ _ _ _ _ _ _ _ _ _ _ _ _ _ _)
  unfold kernelRun0_A
  dsimp only
  intro p hp z
  fin_cases hp
  idx_vars z
  simp only [load_eq, load_all2, load_all3]
  refine (pay1_apply _ _ _ z0 z1).trans ?_
  exact congrArg₂ (partT x1 x3 x4) (Fin.ext (by first | exact (congrArg (_ + ·) (Nat.one_mul _)).symm | exact ((Nat.zero_add _).trans (Nat.one_mul _)).symm)) (Fin.ext (by first | exact (congrArg (_ + ·) (Nat.one_mul _)).symm | exact ((Nat.zero_add _).trans (Nat.one_mul _)).symm))

/-- At a later chunk but the last: the chunk's share on top of what was there. -/
theorem outB_apply (hc0 : ¬cond0_0 i) (hc1 : cond0_1 i) (hc2 : ¬cond0_2 i) (a : Fin 512) (k : Fin 2048) :
    out0_B_6 (F := Ideal) c i arg2 harg2 arg3 harg3 arg4 harg4 arg5 harg5 arg6 harg6 arg7 harg7 arg8 harg8 arg9 harg9 arg10 harg10 hc0 hc1 hc2 x0 x1 x2 x3 x4 x5 xo (ix2 a k) = xo (ix2 a k) + partT x1 x3 x4 a k := by
  unfold out0_B_6
  rw [View.read_writes_eq_canon _ _ _ (cover0_B_6 _ _ _ _ _ _ _ _ _ _ _ _ _ _ _ _ _ _ _ _ _ _ _ _ _ _ _ _ _ _)]
  refine View.canon_apply_of_pieces (Val := Elt Ideal) (S := S512x2048) (e := .f32) (fun y => xo (ix2 (y 0) (y 1)) + partT x1 x3 x4 (y 0) (y 1)) _ ?_ (ix2 a k) (cover0_B_6 _ _ _ _ _ _ _ _ _ _ _ _ _ _ _ _ _ _ _ _ _ _ _ _ _ _ _ _ _ _ _)
  unfold kernelRun0_B
  dsimp only
  intro p hp z
  fin_cases hp
  idx_vars z
  simp only [load_eq, load_all2, load_all3]
  refine (pay2_apply _ _ _ _ z0 z1).trans ?_
  exact congrArg₂ (fun a k => xo (ix2 a k) + partT x1 x3 x4 a k) (Fin.ext (by first | exact (congrArg (_ + ·) (Nat.one_mul _)).symm | exact ((Nat.zero_add _).trans (Nat.one_mul _)).symm)) (Fin.ext (by first | exact (congrArg (_ + ·) (Nat.one_mul _)).symm | exact ((Nat.zero_add _).trans (Nat.one_mul _)).symm))

/-- At the last chunk: the block's whole product, normalised and added to the stream. -/
theorem outC6_apply (hc0 : ¬cond0_0 i) (hc1 : ¬cond0_1 i) (hc2 : cond0_2 i) (R : Fin 512 → EReal) (hR : ∀ a l, x2 (ix2 a l) = R a) (a : Fin 512) (k : Fin 2048) :
    out0_C_6 (F := Ideal) c i arg2 harg2 arg3 harg3 arg4 harg4 arg5 harg5 arg6 harg6 arg7 harg7 arg8 harg8 arg9 harg9 arg10 harg10 hc0 hc1 hc2 x0 x1 x2 x3 x4 x5 xo (ix2 a k) = newT x0 x5 R (fun a k => xo (ix2 a k) + partT x1 x3 x4 a k) a k := by
  unfold out0_C_6
  rw [View.read_writes_eq_canon _ _ _ (cover0_C_6 _ _ _ _ _ _ _ _ _ _ _ _ _ _ _ _ _ _ _ _ _ _ _ _ _ _ _ _ _ _)]
  refine View.canon_apply_of_pieces (Val := Elt Ideal) (S := S512x2048) (e := .f32) (fun y => newT x0 x5 R (fun a k => xo (ix2 a k) + partT x1 x3 x4 a k) (y 0) (y 1)) _ ?_ (ix2 a k) (cover0_C_6 _ _ _ _ _ _ _ _ _ _ _ _ _ _ _ _ _ _ _ _ _ _ _ _ _ _ _ _ _ _ _)
  unfold kernelRun0_C kernelRun0_C.sl.r_7 kernelRun0_C.sl.r_5 kernelRun0_C.sl.r_2 kernelRun0_C.sl.r_1 kernelRun0_C.sl.r_3 kernelRun0_C.sl.r_4 kernelRun0_C.sl.r kernelRun0_C.sl.v121 kernelRun0_C.sl.v74
  dsimp only
  intro p hp z
  fin_cases hp
  all_goals
    idx_vars z
    simp only [load_eq, load_all2, load_all3]
  · rw [pay20_apply _ _ _ _ (fun a => R ⟨384 + a.val, by omega⟩) (fun a l => (ld_rows (e := .f32) x2 384 _ (by omega) a l).trans (hR _ _))]
    simp only [pay16_apply]
    exact normT_rows _ _ _ _ _ 384 _ _ (by omega) _ _
  · rw [pay17_apply _ _ _ _ (fun a => R ⟨256 + a.val, by omega⟩) (fun a l => (ld_rows (e := .f32) x2 256 _ (by omega) a l).trans (hR _ _))]
    simp only [pay12_apply]
    exact normT_rows _ _ _ _ _ 256 _ _ (by omega) _ _
  · rw [pay13_apply _ _ _ _ (fun a => R ⟨128 + a.val, by omega⟩) (fun a l => (ld_rows (e := .f32) x2 128 _ (by omega) a l).trans (hR _ _))]
    simp only [pay6_apply]
    exact normT_rows _ _ _ _ _ 128 _ _ (by omega) _ _
  · rw [pay9_apply _ _ _ _ _ _ _ (fun a => R ⟨0 + a.val, by omega⟩) (fun a l => (ld_rows (e := .f32) x2 0 _ (by omega) a l).trans (hR _ _))]
    simp only [pay5_apply]
    exact normT_rows _ _ _ _ _ 0 _ _ (by omega) _ _

/-- … its copy in the narrow type … -/
theorem outC7_apply (hc0 : ¬cond0_0 i) (hc1 : ¬cond0_1 i) (hc2 : cond0_2 i) (R : Fin 512 → EReal) (hR : ∀ a l, x2 (ix2 a l) = R a) (a : Fin 512) (k : Fin 2048) :
    out0_C_7 (F := Ideal) c i arg2 harg2 arg3 harg3 arg4 harg4 arg5 harg5 arg6 harg6 arg7 harg7 arg8 harg8 arg9 harg9 arg10 harg10 hc0 hc1 hc2 x0 x1 x2 x3 x4 x5 xo (ix2 a k) = newT x0 x5 R (fun a k => xo (ix2 a k) + partT x1 x3 x4 a k) a k := by
  unfold out0_C_7
  rw [View.read_writes_eq_canon _ _ _ (cover0_C_7 _ _ _ _ _ _ _ _ _ _ _ _ _ _ _ _ _ _ _ _ _ _ _ _ _ _ _ _ _ _)]
  refine View.canon_apply_of_pieces (Val := Elt Ideal) (S := S512x2048) (e := .bf16) (fun y => newT x0 x5 R (fun a k => xo (ix2 a k) + partT x1 x3 x4 a k) (y 0) (y 1)) _ ?_ (ix2 a k) (cover0_C_7 _ _ _ _ _ _ _ _ _ _ _ _ _ _ _ _ _ _ _ _ _ _ _ _ _ _ _ _ _ _ _)
  unfold kernelRun0_C kernelRun0_C.sl.r_10 kernelRun0_C.sl.r_7 kernelRun0_C.sl.r_5 kernelRun0_C.sl.r_2 kernelRun0_C.sl.r_1 kernelRun0_C.sl.r_3 kernelRun0_C.sl.r_4 kernelRun0_C.sl.r kernelRun0_C.sl.v121 kernelRun0_C.sl.v74
  dsimp only
  intro p hp z
  fin_cases hp
  all_goals
    idx_vars z
    simp only [load_eq, load_all2, load_all3]
  · rw [pay21_eq, pay20_apply _ _ _ _ (fun a => R ⟨384 + a.val, by omega⟩) (fun a l => (ld_rows (e := .f32) x2 384 _ (by omega) a l).trans (hR _ _))]
    simp only [pay16_apply]
    exact normT_rows _ _ _ _ _ 384 _ _ (by omega) _ _
  · rw [pay18_eq, pay17_apply _ _ _ _ (fun a => R ⟨256 + a.val, by omega⟩) (fun a l => (ld_rows (e := .f32) x2 256 _ (by omega) a l).trans (hR _ _))]
    simp only [pay12_apply]
    exact normT_rows _ _ _ _ _ 256 _ _ (by omega) _ _
  · rw [pay14_eq, pay13_apply _ _ _ _ (fun a => R ⟨128 + a.val, by omega⟩) (fun a l => (ld_rows (e := .f32) x2 128 _ (by omega) a l).trans (hR _ _))]
    simp only [pay6_apply]
    exact normT_rows _ _ _ _ _ 128 _ _ (by omega) _ _
  · rw [pay10_eq, pay9_apply _ _ _ _ _ _ _ (fun a => R ⟨0 + a.val, by omega⟩) (fun a l => (ld_rows (e := .f32) x2 0 _ (by omega) a l).trans (hR _ _))]
    simp only [pay5_apply]
    exact normT_rows _ _ _ _ _ 0 _ _ (by omega) _ _

/-- … and its rows' inverse root mean squares. -/
theorem outC8_apply (hc0 : ¬cond0_0 i) (hc1 : ¬cond0_1 i) (hc2 : cond0_2 i) (R : Fin 512 → EReal) (hR : ∀ a l, x2 (ix2 a l) = R a) (a : Fin 512) (k : Fin 128) :
    out0_C_8 (F := Ideal) c i arg2 harg2 arg3 harg3 arg4 harg4 arg5 harg5 arg6 harg6 arg7 harg7 arg8 harg8 arg9 harg9 arg10 harg10 hc0 hc1 hc2 x0 x1 x2 x3 x4 x5 xo (ix2 a k) = inv (newT x0 x5 R (fun a k => xo (ix2 a k) + partT x1 x3 x4 a k) a) := by
  unfold out0_C_8
  rw [View.read_writes_eq_canon _ _ _ (cover0_C_8 _ _ _ _ _ _ _ _ _ _ _ _ _ _ _ _ _ _ _ _ _ _ _ _ _ _ _ _ _ _)]
  refine View.canon_apply_of_pieces (Val := Elt Ideal) (S := S512x128) (e := .f32) (fun y => inv (newT x0 x5 R (fun a k => xo (ix2 a k) + partT x1 x3 x4 a k) (y 0))) _ ?_ (ix2 a k) (cover0_C_8 _ _ _ _ _ _ _ _ _ _ _ _ _ _ _ _ _ _ _ _ _ _ _ _ _ _ _ _ _ _ _)
  unfold kernelRun0_C kernelRun0_C.sl.r_9 kernelRun0_C.sl.r_8 kernelRun0_C.sl.r_6 kernelRun0_C.sl.r_7 kernelRun0_C.sl.r_5 kernelRun0_C.sl.r_2 kernelRun0_C.sl.r_1 kernelRun0_C.sl.r_3 kernelRun0_C.sl.r_4 kernelRun0_C.sl.r kernelRun0_C.sl.v121 kernelRun0_C.sl.v74
  dsimp only
  intro p hp z
  fin_cases hp
  all_goals
    idx_vars z
    simp only [load_eq, load_all2, load_all3]
  · simp only [pay19_eq, pay15_eq, pay11_eq, pay3_apply]
    simp only [pay20_apply _ _ _ _ (fun a => R ⟨384 + a.val, by omega⟩) (fun a l => (ld_rows (e := .f32) x2 384 _ (by omega) a l).trans (hR _ _)), pay16_apply]
    exact inv_rows _ _ _ _ _ 384 _ _ _ (by omega) _ _
  · simp only [pay19_eq, pay15_eq, pay11_eq, pay3_apply]
    simp only [pay17_apply _ _ _ _ (fun a => R ⟨256 + a.val, by omega⟩) (fun a l => (ld_rows (e := .f32) x2 256 _ (by omega) a l).trans (hR _ _)), pay12_apply]
    exact inv_rows _ _ _ _ _ 256 _ _ _ (by omega) _ _
  · simp only [pay19_eq, pay15_eq, pay11_eq, pay3_apply]
    simp only [pay13_apply _ _ _ _ (fun a => R ⟨128 + a.val, by omega⟩) (fun a l => (ld_rows (e := .f32) x2 128 _ (by omega) a l).trans (hR _ _)), pay6_apply]
    exact inv_rows _ _ _ _ _ 128 _ _ _ (by omega) _ _
  · simp only [pay19_eq, pay15_eq, pay11_eq, pay3_apply]
    simp only [pay9_apply _ _ _ _ _ _ _ (fun a => R ⟨0 + a.val, by omega⟩) (fun a l => (ld_rows (e := .f32) x2 0 _ (by omega) a l).trans (hR _ _)), pay5_apply]
    exact inv_rows _ _ _ _ _ 0 _ _ _ (by omega) _ _

end Cert.Mlp

end

end
-- ==== Proof.Mlp.Kern.lean ====
/- The arrays the feed-forward kernel leaves. -/
module

public import proofs.«01_k».proof.Proof.Mlp.Out
public import proofs.«01_k».proof.Proof.Gen.Kernel2Ideal.Value
public import Idealize.ShloMosaic.Lib.Pipeline.ValueKit.Point

@[expose] public section

noncomputable section

namespace Cert.Mlp

open Idealize.ShloMosaic Idealize.ShloMosaic.TcCoe Idealize.SL.Sem
open Cert.Kernel2Ideal Cert.Kernel2Ideal.Gen

section
variable (a0 : FVec Ideal S32768x2048 .f32) (a1 : FVec Ideal S4x2048 .f32) (a2 : FVec Ideal S4x2048x8192 .f32)
  (a3 : FVec Ideal S4x8192x2048 .f32) (a4 : FVec Ideal S4x2048 .f32)

/-- The hidden value `f` of row `r`, before the row's scale. -/
def hid (r : Fin 32768) (f : Fin 8192) : EReal := act (∑ d : Fin 2048, a0 (ix2 r d) * (a2 (ix3 3 d f) * a1 (ix2 3 d)))

/-- What hidden value `g` adds to the product. -/
def term (r : Fin 32768) (k : Fin 2048) (g : ℕ) : EReal :=
  if h : g < 8192 then hid a0 a1 a2 r ⟨g, h⟩ * a3 (ix3 3 ⟨g, h⟩ k) else 0

/-- The product of row `r` over the first `n` hidden values. -/
def upto (r : Fin 32768) (n : ℕ) (k : Fin 2048) : EReal := ∑ g ∈ Finset.range n, term a0 a1 a2 a3 r k g

/-- The new stream. -/
def new (r : Fin 32768) (c : Fin 2048) : EReal :=
  rowT (a0 (ix2 r c)) (a4 (ix2 3 c)) (inv fun d => a0 (ix2 r d)) (upto a0 a1 a2 a3 r 8192) c

end

variable (m : (ℓ : Loc nD τ sig) → Buf (Elt Ideal) ℓ)

/-- Where each window's block lies. -/
theorem idx : ∀ t : Fin cfg0.N,
    win0_0.index t = ![t.val / 8, 0] ∧ win0_1.index t = ![t.val / 8, 0] ∧ win0_2.index t = ![t.val / 8, 0] ∧ win0_3.index t = ![3, 0, t.val % 8] ∧
    win0_4.index t = ![3, t.val % 8, 0] ∧ win0_5.index t = ![0, 0] ∧ win0_6.index t = ![t.val / 8, 0] ∧ win0_7.index t = ![t.val / 8, 0] ∧
    win0_8.index t = ![t.val / 8, 0] :=
  (by decide +kernel : ∀ t : Fin grid0.N, _)

theorem lt_points (t : Fin cfg0.N) : t.val < 512 := lt_of_lt_of_eq t.isLt (show cfg0.N = 512 from N_0)

/-- A row of the arrays, by its row block and its place there. -/
def row (n : ℕ) (hn : n < 512) (a : Fin 512) : Fin 32768 := ⟨n / 8 * 512 + a.val, by omega⟩

/-- The first matrix the launch finds, its rows scaled by the gains. -/
def gains (a1 : FVec Ideal S4x2048 .f32) (a2 : FVec Ideal S4x2048x8192 .f32) : FVec Ideal S4x2048x8192 .bf16 :=
  truncf .bf16 (mulf a2 (broadcastInDim S4x2048x8192 ![0, 1, 2] bcast_S4x2048x1_S4x2048x8192_0_1_2 (broadcastInDim S4x2048x1 ![0, 1] bcast_S4x2048_S4x2048x1_0_1 a1))) bitsLt_bf16_f32

theorem gains_apply (a1 : FVec Ideal S4x2048 .f32) (a2 : FVec Ideal S4x2048x8192 .f32) (l : Fin 4) (d : Fin 2048) (f : Fin 8192) :
    gains a1 a2 (ix3 l d f) = a2 (ix3 l d f) * a1 (ix2 l d) := by
  pointwise [gains]

theorem V_gains (c : Dev nD) : V m c main_v3 = gains (m ((c.tc : Thread nD τ).loc main_arg1)) (m ((c.tc : Thread nD τ).loc main_arg2)) := by
  blk_simp [V]
  rfl

theorem hidT_eq (c : Dev nD) (t : Fin cfg0.N) (a : Fin 512) (f : Fin 1024) :
    hidT (iblk m c 1 t) (iblk m c 3 t) a f =
      hid (m ((c.tc : Thread nD τ).loc main_arg0)) (m ((c.tc : Thread nD τ).loc main_arg1)) (m ((c.tc : Thread nD τ).loc main_arg2))
        (row t.val (lt_points t) a) ⟨t.val % 8 * 1024 + f.val, by omega⟩ := by
  obtain ⟨i0, i1, i2, i3, i4, i5, i6, i7, i8⟩ := idx t
  unfold hidT hid row
  refine congrArg act (Finset.sum_congr rfl fun d _ => ?_)
  congr 1
  · blk_point [iblk, V, i1]
  · refine (congrFun (V_gains m c) ((win0_3.blk t).view.emb (ix3 0 d f))).trans ?_
    refine Eq.trans (congrArg _ ?_) (gains_apply _ _ 3 d ⟨t.val % 8 * 1024 + f.val, by omega⟩)
    blk_point [i3]

theorem partT_eq (c : Dev nD) (t : Fin cfg0.N) (a : Fin 512) (k : Fin 2048) :
    partT (iblk m c 1 t) (iblk m c 3 t) (iblk m c 4 t) a k =
      ∑ f ∈ Finset.range 1024, term (m ((c.tc : Thread nD τ).loc main_arg0)) (m ((c.tc : Thread nD τ).loc main_arg1)) (m ((c.tc : Thread nD τ).loc main_arg2))
        (m ((c.tc : Thread nD τ).loc main_arg3)) (row t.val (lt_points t) a) k (t.val % 8 * 1024 + f) := by
  obtain ⟨i0, i1, i2, i3, i4, i5, i6, i7, i8⟩ := idx t
  unfold partT
  rw [Finset.sum_range]
  refine Finset.sum_congr rfl fun f _ => ?_
  rw [hidT_eq]
  refine Eq.trans ?_ (dif_pos (show t.val % 8 * 1024 + f.val < 8192 by omega)).symm
  congr 1
  blk_point [iblk, V, i4]

/-- The scales the launch finds. -/
def scales (a0 : FVec Ideal S32768x2048 .f32) : FVec Ideal S32768x128 .f32 :=
  broadcastInDim S32768x128 ![0, 1] bcast_S32768x1_S32768x128_0_1 (Host.rsqrt (addf (Host.divf
    (broadcastInDim S32768x1 ![0] bcast_S32768_S32768x1_0 (Host.reduceAdd (mulf a0 a0) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))

theorem scales_apply (a0 : FVec Ideal S32768x2048 .f32) (r : Fin 32768) (l : Fin 128) : scales a0 (ix2 r l) = inv fun d => a0 (ix2 r d) := by
  pointwise [scales]
  rfl

theorem V_scales (c : Dev nD) : V m c main_v14 = scales (m ((c.tc : Thread nD τ).loc main_arg0)) := by
  blk_simp [V]
  rfl

/-- The row scales of a block. -/
theorem scale_eq (c : Dev nD) (t : Fin cfg0.N) (a : Fin 512) (l : Fin 128) :
    iblk m c 2 t (ix2 a l) = inv fun d => m ((c.tc : Thread nD τ).loc main_arg0) (ix2 (row t.val (lt_points t) a) d) := by
  obtain ⟨i0, i1, i2, i3, i4, i5, i6, i7, i8⟩ := idx t
  refine (congrFun (V_scales m c) ((win0_2.blk t).view.emb (ix2 a l))).trans ?_
  refine Eq.trans (congrArg _ ?_) (scales_apply _ (row t.val (lt_points t) a) l)
  unfold row
  blk_point [i2]

/-- The accumulator after a row block's first chunks. -/
theorem acc_eq (c : Dev nD) : ∀ (n : ℕ) (hn : n < cfg0.N), n % 8 ≤ 6 → ∀ (a : Fin 512) (k : Fin 2048),
    (outsAt0 m c n hn).1 (ix2 a k) = upto (m ((c.tc : Thread nD τ).loc main_arg0)) (m ((c.tc : Thread nD τ).loc main_arg1)) (m ((c.tc : Thread nD τ).loc main_arg2))
        (m ((c.tc : Thread nD τ).loc main_arg3)) (row n (lt_points ⟨n, hn⟩) a) ((n % 8 + 1) * 1024) k := by
  intro n
  induction n with
  | zero =>
    intro hn _ a k
    refine (congrFun (congrArg Prod.fst (outsAt0_A m c ⟨0, hn⟩ rfl (by dsimp only; omega) (by dsimp only; omega))) (ix2 a k)).trans ?_
    dsimp only
    rw [outA_apply, partT_eq]
    refine Finset.sum_congr rfl fun f _ => congrArg _ (Nat.zero_add f)
  | succ n ih =>
    intro hn h6 a k
    by_cases h0 : (n + 1) % 8 = 0
    · refine (congrFun (congrArg Prod.fst (outsAt0_A m c ⟨n + 1, hn⟩ h0 (by dsimp only; omega) (by dsimp only; omega))) (ix2 a k)).trans ?_
      dsimp only
      rw [outA_apply, partT_eq]
      unfold upto
      dsimp only
      rw [h0]
      refine Finset.sum_congr rfl fun f _ => congrArg _ (Nat.zero_add f)
    · refine (congrFun (congrArg Prod.fst (outsAt0_B m c ⟨n + 1, hn⟩ h0 (by dsimp only; omega) (by dsimp only; omega))) (ix2 a k)).trans ?_
      dsimp only
      rw [outB_apply, partT_eq]
      refine (congrArg (· + _) (ih (by omega) (by omega) a k)).trans ?_
      have e1 : row n (by have := lt_points ⟨n + 1, hn⟩; dsimp only at this; omega) a = row (n + 1) (lt_points ⟨n + 1, hn⟩) a :=
        Fin.ext (show n / 8 * 512 + a.val = (n + 1) / 8 * 512 + a.val by omega)
      have e2 : ((n + 1) % 8 + 1) * 1024 = (n % 8 + 1) * 1024 + 1024 := by omega
      have e3 : (n + 1) % 8 * 1024 = (n % 8 + 1) * 1024 := by omega
      unfold upto
      dsimp only
      rw [e1, e2, e3, Finset.sum_range_add]

/-- The block's new stream, at a row block's last chunk. -/
theorem newT_eq (c : Dev nD) (t : Fin cfg0.N) (h7 : t.val % 8 = 7) (a : Fin 512) :
    newT (iblk m c 0 t) (iblk m c 5 t) (fun a => inv fun d => m ((c.tc : Thread nD τ).loc main_arg0) (ix2 (row t.val (lt_points t) a) d))
        (fun a k => (outsAt0 m c (t.val - 1) (Nat.lt_of_le_of_lt (Nat.sub_le _ _) t.isLt)).1 (ix2 a k) + partT (iblk m c 1 t) (iblk m c 3 t) (iblk m c 4 t) a k) a =
      new (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (row t.val (lt_points t) a) := by
  obtain ⟨i0, i1, i2, i3, i4, i5, i6, i7, i8⟩ := idx t
  funext k
  have eu : (fun k => (outsAt0 m c (t.val - 1) (Nat.lt_of_le_of_lt (Nat.sub_le _ _) t.isLt)).1 (ix2 a k) + partT (iblk m c 1 t) (iblk m c 3 t) (iblk m c 4 t) a k) =
      upto (m ((c.tc : Thread nD τ).loc main_arg0)) (m ((c.tc : Thread nD τ).loc main_arg1)) (m ((c.tc : Thread nD τ).loc main_arg2))
        (m ((c.tc : Thread nD τ).loc main_arg3)) (row t.val (lt_points t) a) 8192 := by
    funext k
    have ht := lt_points t
    rw [acc_eq m c (t.val - 1) _ (by omega), partT_eq]
    have e1 : row (t.val - 1) (by omega) a = row t.val (lt_points t) a :=
      Fin.ext (show (t.val - 1) / 8 * 512 + a.val = t.val / 8 * 512 + a.val by omega)
    have e2 : ((t.val - 1) % 8 + 1) * 1024 = 7168 := by omega
    have e3 : t.val % 8 * 1024 = 7168 := by omega
    rw [e1, e2, e3]
    exact (Finset.sum_range_add _ 7168 1024).symm
  unfold newT new
  beta_reduce
  rw [eu]
  congr 1
  · unfold row
    blk_point [iblk, V, i0]
  · blk_point [iblk, V, i5]

/-- A row block's results leave at its last chunk. -/
theorem last : ∀ t : Fin cfg0.N, (cfg0.win 6).flush t = true → t.val % 8 = 7 := (by decide +kernel : ∀ t : Fin grid0.N, _)
theorem last7 : ∀ t : Fin cfg0.N, (cfg0.win 7).flush t = true → t.val % 8 = 7 := (by decide +kernel : ∀ t : Fin grid0.N, _)
theorem last8 : ∀ t : Fin cfg0.N, (cfg0.win 8).flush t = true → t.val % 8 = 7 := (by decide +kernel : ∀ t : Fin grid0.N, _)

section
variable (c : Dev nD)

/-- The new stream, of the launch's arguments. -/
def newM : Fin 32768 → Fin 2048 → EReal :=
  new (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable (t : Fin cfg0.N) (h7 : t.val % 8 = 7)
include h7

theorem left6 (y : S512x2048.Idx) : (outsAt0 m c t.val t.isLt).1 y = newM m c (row t.val (lt_points t) (y 0)) (y 1) := by
  idx_vars y
  rw [outsAt0_C m c t (by omega) (by omega) h7]
  dsimp only
  rw [outC6_apply (hR := scale_eq m c t)]
  exact congrFun (newT_eq m c t h7 _) _

theorem left7 (y : S512x2048.Idx) : (outsAt0 m c t.val t.isLt).2.1 y = newM m c (row t.val (lt_points t) (y 0)) (y 1) := by
  idx_vars y
  rw [outsAt0_C m c t (by omega) (by omega) h7]
  dsimp only
  rw [outC7_apply (hR := scale_eq m c t)]
  exact congrFun (newT_eq m c t h7 _) _

theorem left8 (y : S512x128.Idx) : (outsAt0 m c t.val t.isLt).2.2 y = inv (newM m c (row t.val (lt_points t) (y 0))) := by
  idx_vars y
  rw [outsAt0_C m c t (by omega) (by omega) h7]
  dsimp only
  rw [outC8_apply (hR := scale_eq m c t)]
  exact congrArg inv (newT_eq m c t h7 _)

end

/-- The array the stream is left in. -/
theorem arr6_eq (c : Dev nD) : (dats m 0 c).arrAt 6 cfg0.N = fun i : S32768x2048.Idx => newM m c (i 0) (i 1) := by
  refine (dats m 0 c).arrAt_eq_of_covers 6 _ (by decide +kernel) fun t hf y => ?_
  blk_simp
  rw [after0_6]
  refine (left6 m c t (last t hf) y).trans ?_
  obtain ⟨i0, i1, i2, i3, i4, i5, i6, i7, i8⟩ := idx t
  exact congrArg₂ (newM m c) (Fin.ext (by unfold row; blk_simp [i6])) (Fin.ext (by blk_simp [i6]))

/-- Its copy in the narrow type. -/
theorem arr7_eq (c : Dev nD) : (dats m 0 c).arrAt 7 cfg0.N = fun i : S32768x2048.Idx => newM m c (i 0) (i 1) := by
  refine (dats m 0 c).arrAt_eq_of_covers 7 _ (by decide +kernel) fun t hf y => ?_
  blk_simp
  rw [after0_7]
  refine (left7 m c t (last7 t hf) y).trans ?_
  obtain ⟨i0, i1, i2, i3, i4, i5, i6, i7, i8⟩ := idx t
  exact congrArg₂ (newM m c) (Fin.ext (by unfold row; blk_simp [i7])) (Fin.ext (by blk_simp [i7]))

/-- The array the inverse root mean squares are left in. -/
theorem arr8_eq (c : Dev nD) : (dats m 0 c).arrAt 8 cfg0.N = fun i : S32768x128.Idx => inv (newM m c (i 0)) := by
  refine (dats m 0 c).arrAt_eq_of_covers 8 _ (by decide +kernel) fun t hf y => ?_
  blk_simp
  rw [after0_8]
  refine (left8 m c t (last8 t hf) y).trans ?_
  obtain ⟨i0, i1, i2, i3, i4, i5, i6, i7, i8⟩ := idx t
  exact congrArg (fun a => inv (newM m c a)) (Fin.ext (by unfold row; blk_simp [i8]))

end Cert.Mlp

end

end
-- ==== Proof.Mlp.Ref.lean ====
/- The feed-forward reference, entry by entry. -/
module

public import proofs.«01_k».proof.Proof.Mlp.Kern
public import proofs.«01_k».proof.Proof.Mlp.Scale
public import proofs.«01_k».proof.Proof.Gen.Reference2Ideal.Read
public import Idealize.ShloMosaic.Lib.Pointwise

@[expose] public section

noncomputable section

namespace Cert.Mlp

open Idealize.ShloMosaic Idealize.ShloMosaic.TcCoe Idealize.SL.Sem
open Cert.Reference2Ideal Cert.Reference2Ideal.Gen Cert.Reference2Ideal.Read

variable (a0 : FVec Ideal S32768x2048 .f32) (a1 : FVec Ideal S4x2048 .f32) (a2 : FVec Ideal S4x2048x8192 .f32)
  (a3 : FVec Ideal S4x8192x2048 .f32) (a4 : FVec Ideal S4x2048 .f32)

theorem refScale (r : Fin 32768) (l : Fin 1) : val_main_v9 (F := Ideal) a0 (ix2 r l) = inv fun d => a0 (ix2 r d) := by
  pointwise [val_main_v9, val_main_v8, val_main_v7, val_main_v6, val_main_v5, val_main_v4, val_main_v3, val_main_v2, val_main_cst, val_main_cst_0, val_main_cst_1]
  rfl

theorem refNorm (r : Fin 32768) (d : Fin 2048) :
    val_main_v14 (F := Ideal) a0 a1 (ix2 r d) = a0 (ix2 r d) * (inv fun d => a0 (ix2 r d)) * a1 (ix2 3 d) := by
  pointwise [val_main_v14, val_main_v13, val_main_v12, val_main_v11, val_main_v10, val_main_v1, val_main_v0]
  simp only [refScale]

theorem refHid (r : Fin 32768) (f : Fin 8192) :
    val_main_v17 (F := Ideal) a0 a1 a2 (ix2 r f) = (inv fun d => a0 (ix2 r d)) * ∑ d : Fin 2048, a0 (ix2 r d) * (a2 (ix3 3 d f) * a1 (ix2 3 d)) := by
  pointwise [val_main_v17, val_main_v16, val_main_v15]
  simp only [refNorm]
  obtain ⟨h0, h1⟩ := inv_real fun d => a0 (ix2 r d)
  rw [← scale_sum h0 h1]
  refine Finset.sum_congr rfl fun d _ => ?_
  ac_rfl

theorem refAct (r : Fin 32768) (f : Fin 8192) :
    val_main_v19 (F := Ideal) a0 a1 a2 (ix2 r f) = (inv fun d => a0 (ix2 r d)) * (inv fun d => a0 (ix2 r d)) * hid a0 a1 a2 r f := by
  have e : val_main_v19 (F := Ideal) a0 a1 a2 (ix2 r f) = act (val_main_v17 (F := Ideal) a0 a1 a2 (ix2 r f)) := by
    unfold act
    rw [show (0 : EReal) = Ideal.ofBits .f32 0x00000000#32 by simp [Ideal.ofBits, Ideal.ieee]]
    rfl
  rw [e, refHid, act_scale (inv_real _).1]
  rfl

theorem refProd (r : Fin 32768) (c : Fin 2048) :
    val_main_v22 (F := Ideal) a0 a1 a2 a3 (ix2 r c) = (inv fun d => a0 (ix2 r d)) * (inv fun d => a0 (ix2 r d)) * upto a0 a1 a2 a3 r 8192 c := by
  pointwise [val_main_v22, val_main_v21, val_main_v20]
  simp only [refAct]
  obtain ⟨h0, h1⟩ := inv_real fun d => a0 (ix2 r d)
  obtain ⟨s0, s1⟩ := scale_sq h0 h1
  unfold upto
  rw [Finset.sum_range, ← scale_sum s0 s1]
  refine Finset.sum_congr rfl fun f _ => ?_
  rw [show term a0 a1 a2 a3 r c f.val = hid a0 a1 a2 r f * a3 (ix3 3 f c) from dif_pos f.isLt, mul_assoc]

theorem refNew (r : Fin 32768) (c : Fin 2048) : val_main_v38 (F := Ideal) a0 a1 a2 a3 a4 (ix2 r c) = new a0 a1 a2 a3 a4 r c := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_cst_2, val_main_cst_3, val_main_cst_4]
  simp only [refProd]
  unfold new
  rw [rowT_scale (inv_real _).1 (inv_real _).2]
  rfl

theorem refNewB (r : Fin 32768) (c : Fin 2048) : val_main_v46 (F := Ideal) a0 a1 a2 a3 a4 (ix2 r c) = new a0 a1 a2 a3 a4 r c := by
  pointwise [val_main_v46]
  exact refNew a0 a1 a2 a3 a4 r c

theorem refInv (r : Fin 32768) (l : Fin 128) : val_main_v48 (F := Ideal) a0 a1 a2 a3 a4 (ix2 r l) = inv (new a0 a1 a2 a3 a4 r) := by
  pointwise [val_main_v48, val_main_v47, val_main_v45, val_main_v44, val_main_v43, val_main_v42, val_main_v41, val_main_v40, val_main_v39, val_main_cst_5, val_main_cst_6, val_main_cst_7]
  simp only [refNew]
  rfl

end Cert.Mlp

end

end
-- ==== Proof.Mlp.Same.lean ====
/- The claims about the feed-forward part. -/
module

public import proofs.«01_k».proof.Defs
public import proofs.«01_k».proof.Proof.Mlp.Ref
public import proofs.«01_k».proof.Proof.Gen.Kernel2Ideal
public import proofs.«01_k».proof.Proof.Gen.Reference2Ideal
public import proofs.«01_k».proof.Proof.Gen.Reference2Ideal.Run
public import Idealize.ShloMosaic.Adequacy
public import Idealize.ShloMosaic.Lib.Quiescent

@[expose] public section

noncomputable section

namespace Cert.Mlp

open Idealize.ShloMosaic Idealize.ShloMosaic.TcCoe Idealize.SL.Sem

theorem quiescent : Cert.quiescent_Reference2Ideal := fun m g _ =>
  (θ_run _ _ _).mono (fun _ h => ⟨fun c => (h c).2.2.2, sem_eq_zero_of_no_sems rfl _⟩) (Cert.Reference2Ideal.Value.run m g)

theorem algebraic : Cert.algebraic_Kernel2Ideal_Reference2Ideal := by
  intro m g m' g' _ ha
  refine ⟨fun c i => newM m c (i 0) (i 1), fun c i => newM m c (i 0) (i 1), fun c i => inv (newM m c (i 0)), ?_, ?_⟩
  · refine (θ_run _ _ _).mono (fun r h c => ?_) (Cert.Kernel2Ideal.Value.run_blocks m g)
    obtain ⟨e0, e1, e2, k⟩ := h c
    exact ⟨e0.trans (arr6_eq m c), e1.trans (arr7_eq m c), e2.trans (arr8_eq m c), k⟩
  · refine (θ_run _ _ _).mono (fun r h c => ?_) (Cert.Reference2Ideal.Value.run m' g')
    obtain ⟨e0, e1, e2, k⟩ := h c
    obtain ⟨a0, a1, a2, a3, a4⟩ := ha c
    refine ⟨e0.trans ?_, e1.trans ?_, e2.trans ?_, k⟩
    · rw [Cert.Reference2Ideal.Read.val_main_v38_eq, a0, a1, a2, a3, a4]
      funext i
      idx_vars i
      exact refNew _ _ _ _ _ _ _
    · rw [Cert.Reference2Ideal.Read.val_main_v46_eq, a0, a1, a2, a3, a4]
      funext i
      idx_vars i
      exact refNewB _ _ _ _ _ _ _
    · rw [Cert.Reference2Ideal.Read.val_main_v48_eq, a0, a1, a2, a3, a4]
      funext i
      idx_vars i
      exact refInv _ _ _ _ _ _ _

end Cert.Mlp

end

end
-- ==== Proof.lean ====
/- The proof of the claims. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Attn.Same
public import proofs.«01_k».proof.Proof.InProj.Same
public import proofs.«01_k».proof.Proof.First.Same
public import proofs.«01_k».proof.Proof.OutProj.Same
public import proofs.«01_k».proof.Proof.Mlp.Same
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

instance facts_finite : Cert.Pre_finite.Facts where
  bitsLt_bf16_f32 := by decide
  bcast_S_S32768x1536 := by decide
  bcast_S_S32768x128 := by decide
  bcast_S_S16x8x2048 := by decide

/-- A number of absolute value below plus infinity is real. -/
theorem real_of_lt {x : EReal} (h : Ideal.cmp .olt (max x (-x)) (Ideal.ofBits .f32 0x7F800000#32) = 1#1) :
    x = ((x.toReal : ℝ) : EReal) := by
  have e : Ideal.ofBits .f32 0x7F800000#32 = ⊤ := by simp [Ideal.ofBits, Ideal.ieee]
  rw [e] at h
  induction x with
  | bot => exact absurd h (by simp [Ideal.cmp])
  | top => exact absurd h (by simp [Ideal.cmp])
  | coe x => rfl

theorem real_args {x0 : FVec Ideal Cert.KernelIdeal.S32768x1536 .bf16} {x1 : FVec Ideal Cert.KernelIdeal.S32768x128 .f32}
    {x2 : FVec Ideal Cert.KernelIdeal.S16x8x2048 .f32}
    (h : (Cert.Pre_finite.fn x0 x1 x2).1 = (fun _ => 1#1) ∧ (Cert.Pre_finite.fn x0 x1 x2).2.1 = (fun _ => 1#1)
      ∧ (Cert.Pre_finite.fn x0 x1 x2).2.2 = (fun _ => 1#1)) :
    (∀ r l, x0 (ix2 r l) = (((x0 (ix2 r l)).toReal : ℝ) : EReal)) ∧ (∀ r l, x1 (ix2 r l) = (((x1 (ix2 r l)).toReal : ℝ) : EReal))
      ∧ ∀ b r l, x2 (ix3 b r l) = (((x2 (ix3 b r l)).toReal : ℝ) : EReal) := by
  obtain ⟨p0, p1, p2⟩ := h
  exact ⟨fun r l => real_of_lt (congrFun p0 (ix2 r l)), fun r l => real_of_lt (congrFun p1 (ix2 r l)),
    fun b r l => real_of_lt (congrFun p2 (ix3 b r l))⟩

theorem algebraic : Cert.algebraic_KernelIdeal_ReferenceIdeal_pre_finite := by
  intro m g m' g' hp ha
  refine ⟨fun c => Cert.Attn.attnArr (m ((c.tc : Thread _ _).loc Cert.KernelIdeal.main_arg0)) (m ((c.tc : Thread _ _).loc Cert.KernelIdeal.main_arg1))
    (m ((c.tc : Thread _ _).loc Cert.KernelIdeal.main_arg2)), ?_, ?_⟩
  · refine (θ_run _ _ _).mono (fun r h c => ?_) (Cert.KernelIdeal.Value.run_blocks m g)
    exact ⟨(h c).1.trans (Cert.Attn.arr_eq m c), (h c).2⟩
  · refine (θ_run _ _ _).mono (fun r h c => ?_) (Cert.ReferenceIdeal.Value.run m' g')
    obtain ⟨e, k⟩ := h c
    refine ⟨e.trans ?_, k⟩
    obtain ⟨a0, a1, a2⟩ := ha c
    rw [Cert.ReferenceIdeal.Read.val_main_v52_eq, a0, a1, a2]
    obtain ⟨p0, p1, p2⟩ := real_args (hp c)
    exact Cert.Attn.same p0 p1 p2

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl _⟩) (Cert.ReferenceIdeal.Value.run m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, facts_finite,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ,
    fun m ρ _ => Cert.Kernel2.Gen.frame m ρ, fun m ρ _ => Cert.Kernel2Ideal.Gen.frame m ρ, Cert.Mlp.quiescent,
    fun m ρ _ => Cert.Kernel3.Gen.frame m ρ, fun m ρ _ => Cert.Kernel3Ideal.Gen.frame m ρ, Cert.OutProj.quiescent,
    fun m ρ _ => Cert.Kernel4.Gen.frame m ρ, fun m ρ _ => Cert.Kernel4Ideal.Gen.frame m ρ, Cert.InProj.quiescent,
    fun m ρ _ => Cert.Kernel5.Gen.frame m ρ, fun m ρ _ => Cert.Kernel5Ideal.Gen.frame m ρ, Cert.First.quiescent,
    trivial, algebraic, trivial, Cert.Mlp.algebraic, trivial, Cert.OutProj.algebraic, trivial, Cert.InProj.algebraic,
    trivial, Cert.First.algebraic⟩

end Cert.Proof

end
